-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x20000x4 : Shape := ⟨3, ![8, 20000, 4]⟩
abbrev S8x20000x91 : Shape := ⟨3, ![8, 20000, 91]⟩
abbrev S8x20000x1 : Shape := ⟨3, ![8, 20000, 1]⟩
abbrev S1x2000x91 : Shape := ⟨3, ![1, 2000, 91]⟩
abbrev S1x2000x1 : Shape := ⟨3, ![1, 2000, 1]⟩
abbrev S2000x91 : Shape := ⟨2, ![2000, 91]⟩
abbrev S2000 : Shape := ⟨1, ![2000]⟩
abbrev S2000x1 : Shape := ⟨2, ![2000, 1]⟩
abbrev S8x20000 : Shape := ⟨2, ![8, 20000]⟩
abbrev S_ : Shape := ⟨0, ![]⟩
abbrev S8x20480 : Shape := ⟨2, ![8, 20480]⟩
abbrev S4x8x20000 : Shape := ⟨3, ![4, 8, 20000]⟩
abbrev S4x8x20480 : Shape := ⟨3, ![4, 8, 20480]⟩
abbrev S1x8x20480 : Shape := ⟨3, ![1, 8, 20480]⟩
abbrev S8x128 : Shape := ⟨2, ![8, 128]⟩
abbrev S8x1 : Shape := ⟨2, ![8, 1]⟩
abbrev S8 : Shape := ⟨1, ![8]⟩
abbrev S8x100 : Shape := ⟨2, ![8, 100]⟩
abbrev S8x100x1 : Shape := ⟨3, ![8, 100, 1]⟩
abbrev S8x100x4 : Shape := ⟨3, ![8, 100, 4]⟩

abbrev nBuf : Space → Nat
  | .hbm => 44
  | .vmem => 19
  | .smem => 0
  | _ => 0

abbrev bufTy : (tb : Table) → Fin (tcTables nBuf tb) → BufTy
  | .hbm, ⟨0, _⟩ => ⟨S8x20000x4, .f32⟩
  | .hbm, ⟨1, _⟩ => ⟨S8x20000x91, .f32⟩
  | .hbm, ⟨2, _⟩ => ⟨S8x20000x1, .f32⟩
  | .hbm, ⟨3, _⟩ => ⟨S8x20000x1, .i32⟩
  | .hbm, ⟨4, _⟩ => ⟨S8x20000, .f32⟩
  | .hbm, ⟨5, _⟩ => ⟨S8x20000, .i32⟩
  | .hbm, ⟨6, _⟩ => ⟨S_, .f32⟩
  | .hbm, ⟨7, _⟩ => ⟨S_, .f32⟩
  | .hbm, ⟨8, _⟩ => ⟨S8x20480, .f32⟩
  | .hbm, ⟨9, _⟩ => ⟨S_, .i32⟩
  | .hbm, ⟨10, _⟩ => ⟨S_, .i32⟩
  | .hbm, ⟨11, _⟩ => ⟨S8x20480, .i32⟩
  | .hbm, ⟨12, _⟩ => ⟨S4x8x20000, .f32⟩
  | .hbm, ⟨13, _⟩ => ⟨S_, .i32⟩
  | .hbm, ⟨14, _⟩ => ⟨S_, .f32⟩
  | .hbm, ⟨15, _⟩ => ⟨S4x8x20480, .f32⟩
  | .hbm, ⟨16, _⟩ => ⟨S1x8x20480, .f32⟩
  | .hbm, ⟨17, _⟩ => ⟨S8x20480, .f32⟩
  | .hbm, ⟨18, _⟩ => ⟨S1x8x20480, .f32⟩
  | .hbm, ⟨19, _⟩ => ⟨S8x20480, .f32⟩
  | .hbm, ⟨20, _⟩ => ⟨S1x8x20480, .f32⟩
  | .hbm, ⟨21, _⟩ => ⟨S8x20480, .f32⟩
  | .hbm, ⟨22, _⟩ => ⟨S1x8x20480, .f32⟩
  | .hbm, ⟨23, _⟩ => ⟨S8x20480, .f32⟩
  | .hbm, ⟨24, _⟩ => ⟨S8x128, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S8x128, .f32⟩
  | .hbm, ⟨29, _⟩ => ⟨S8x128, .i32⟩
  | .hbm, ⟨30, _⟩ => ⟨S8x128, .i32⟩
  | .hbm, ⟨31, _⟩ => ⟨S8x100, .f32⟩
  | .hbm, ⟨32, _⟩ => ⟨S8x100, .f32⟩
  | .hbm, ⟨33, _⟩ => ⟨S8x100, .f32⟩
  | .hbm, ⟨34, _⟩ => ⟨S8x100, .f32⟩
  | .hbm, ⟨35, _⟩ => ⟨S8x100, .f32⟩
  | .hbm, ⟨36, _⟩ => ⟨S8x100x1, .f32⟩
  | .hbm, ⟨37, _⟩ => ⟨S8x100x1, .f32⟩
  | .hbm, ⟨38, _⟩ => ⟨S8x100x1, .f32⟩
  | .hbm, ⟨39, _⟩ => ⟨S8x100x1, .f32⟩
  | .hbm, ⟨40, _⟩ => ⟨S8x100x4, .f32⟩
  | .hbm, ⟨41, _⟩ => ⟨S8x100, .i32⟩
  | .hbm, ⟨42, _⟩ => ⟨S8x1, .i32⟩
  | .hbm, ⟨43, _⟩ => ⟨S8, .i32⟩
  | .local _ .vmem, ⟨0, _⟩ => ⟨S1x2000x91, .f32⟩
  | .local _ .vmem, ⟨1, _⟩ => ⟨S1x2000x91, .f32⟩
  | .local _ .vmem, ⟨2, _⟩ => ⟨S1x2000x1, .f32⟩
  | .local _ .vmem, ⟨3, _⟩ => ⟨S1x2000x1, .f32⟩
  | .local _ .vmem, ⟨4, _⟩ => ⟨S1x2000x1, .i32⟩
  | .local _ .vmem, ⟨5, _⟩ => ⟨S1x2000x1, .i32⟩
  | .local _ .vmem, ⟨6, _⟩ => ⟨S8x20480, .f32⟩
  | .local _ .vmem, ⟨7, _⟩ => ⟨S8x20480, .i32⟩
  | .local _ .vmem, ⟨8, _⟩ => ⟨S8x20480, .f32⟩
  | .local _ .vmem, ⟨9, _⟩ => ⟨S8x20480, .f32⟩
  | .local _ .vmem, ⟨10, _⟩ => ⟨S8x20480, .f32⟩
  | .local _ .vmem, ⟨11, _⟩ => ⟨S8x20480, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .i32⟩
  | .local _ .vmem, ⟨18, _⟩ => ⟨S8x128, .i32⟩
  | _, _ => ⟨S8x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_call0_v0 : Ref sig .tc := ⟨.hbm, 7, rfl⟩
abbrev main_v3 : Ref sig .tc := ⟨.hbm, 8, rfl⟩
abbrev main_c : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v15_5 : Ref sig .tc := ⟨.hbm, 29, rfl⟩
abbrev main_v15_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18

abbrev nD : Nat := 1
abbrev τ : Topo := Topo.v7x

variable {F : FTy → Type} [FloatOps F]

abbrev grid0 : Pipeline.Grid := ⟨2, ![8, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := .none

@[reducible] def k1_t1_loop : Scf.Loop 32 :=
  let c0_i32_13 : BitVec 32 := 0#32
  let c100_i32 : BitVec 32 := 100#32
  let v24 : BitVec 32 := Scalar.addi c0_i32_13 c100_i32
  let c1_i32 : BitVec 32 := 1#32
  ⟨c0_i32_13, v24, c1_i32⟩
abbrev stage1_0 : Fin 1 → Memref sig .tc .vmem S8x20480 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x20480 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x20480 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x20480 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x20480 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x20480 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S8x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S8x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S8x128 .i32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S8x128 .i32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
-- ==== ReferenceIdeal.lean ====
abbrev S8x20000x4 : Shape := ⟨3, ![8, 20000, 4]⟩
abbrev S8x20000x91 : Shape := ⟨3, ![8, 20000, 91]⟩
abbrev S_ : Shape := ⟨0, ![]⟩
abbrev S8x20000 : Shape := ⟨2, ![8, 20000]⟩
abbrev S20000 : Shape := ⟨1, ![20000]⟩
abbrev S100x8 : Shape := ⟨2, ![100, 8]⟩
abbrev S8 : Shape := ⟨1, ![8]⟩
abbrev S8x1 : Shape := ⟨2, ![8, 1]⟩
abbrev S8x1x1 : Shape := ⟨3, ![8, 1, 1]⟩
abbrev S8x1x4 : Shape := ⟨3, ![8, 1, 4]⟩
abbrev S8x4 : Shape := ⟨2, ![8, 4]⟩
abbrev S8x20000x1 : Shape := ⟨3, ![8, 20000, 1]⟩
abbrev S1x20000 : Shape := ⟨2, ![1, 20000]⟩
abbrev S1x8 : Shape := ⟨2, ![1, 8]⟩
abbrev S100 : Shape := ⟨1, ![100]⟩
abbrev S1x100 : Shape := ⟨2, ![1, 100]⟩
abbrev S8x100 : Shape := ⟨2, ![8, 100]⟩
abbrev S8x100x1 : Shape := ⟨3, ![8, 100, 1]⟩
abbrev S1 : Shape := ⟨1, ![1]⟩
abbrev S1x1x1 : Shape := ⟨3, ![1, 1, 1]⟩
abbrev S8x100x4 : Shape := ⟨3, ![8, 100, 4]⟩
abbrev S100x4 : Shape := ⟨2, ![100, 4]⟩

abbrev nBuf : Space → Nat
  | .hbm => 233
  | .vmem => 0
  | .smem => 0
  | _ => 0

abbrev hbmTy0_0 (i : Nat) : BufTy := match i % 128 with
  | 0 => ⟨S8x20000x4, .f32⟩
  | 1 => ⟨S8x20000x91, .f32⟩
  | 2 => ⟨S_, .f32⟩
  | 3 => ⟨S8x20000, .f32⟩
  | 4 => ⟨S8x20000x91, .i32⟩
  | 5 => ⟨S_, .f32⟩
  | 6 => ⟨S_, .i32⟩
  | 7 => ⟨S8x20000, .f32⟩
  | 8 => ⟨S8x20000, .i32⟩
  | 9 => ⟨S_, .f32⟩
  | 10 => ⟨S8x20000, .f32⟩
  | 11 => ⟨S8x20000, .i1⟩
  | 12 => ⟨S_, .f32⟩
  | 13 => ⟨S_, .f32⟩
  | 14 => ⟨S20000, .f32⟩
  | 15 => ⟨S8x20000, .f32⟩
  | 16 => ⟨S8x20000, .f32⟩
  | 17 => ⟨S_, .i32⟩
  | 18 => ⟨S100x8, .i32⟩
  | 19 => ⟨S_, .f32⟩
  | 20 => ⟨S100x8, .f32⟩
  | 21 => ⟨S_, .i1⟩
  | 22 => ⟨S100x8, .i1⟩
  | 23 => ⟨S_, .i32⟩
  | 24 => ⟨S8x20000x4, .f32⟩
  | 25 => ⟨S_, .i32⟩
  | 26 => ⟨S8x20000, .f32⟩
  | 27 => ⟨S100x8, .i32⟩
  | 28 => ⟨S100x8, .f32⟩
  | 29 => ⟨S100x8, .i1⟩
  | 30 => ⟨S_, .i32⟩
  | 31 => ⟨S_, .i1⟩
  | 32 => ⟨S8x20000, .i32⟩
  | 33 => ⟨S_, .f32⟩
  | 34 => ⟨S_, .i32⟩
  | 35 => ⟨S8, .f32⟩
  | 36 => ⟨S8, .i32⟩
  | 37 => ⟨S8x1, .i32⟩
  | 38 => ⟨S_, .i32⟩
  | 39 => ⟨S8x1, .i32⟩
  | 40 => ⟨S8x1, .i1⟩
  | 41 => ⟨S_, .i32⟩
  | 42 => ⟨S8x1, .i32⟩
  | 43 => ⟨S8x1, .i32⟩
  | 44 => ⟨S8x1, .i32⟩
  | 45 => ⟨S8x1x1, .i32⟩
  | 46 => ⟨S8x1, .f32⟩
  | 47 => ⟨S8, .f32⟩
  | 48 => ⟨S_, .f32⟩
  | 49 => ⟨S8, .f32⟩
  | 50 => ⟨S8, .i1⟩
  | 51 => ⟨S8x1, .i32⟩
  | 52 => ⟨S_, .i32⟩
  | 53 => ⟨S8x1, .i32⟩
  | 54 => ⟨S8x1, .i1⟩
  | 55 => ⟨S_, .i32⟩
  | 56 => ⟨S8x1, .i32⟩
  | 57 => ⟨S8x1, .i32⟩
  | 58 => ⟨S8x1, .i32⟩
  | 59 => ⟨S8x1x1, .i32⟩
  | 60 => ⟨S8x1x4, .f32⟩
  | 61 => ⟨S8x4, .f32⟩
  | 62 => ⟨S8x1, .f32⟩
  | 63 => ⟨S8, .f32⟩
  | 64 => ⟨S8x20000x1, .f32⟩
  | 65 => ⟨S8x20000, .f32⟩
  | 66 => ⟨S8x1, .f32⟩
  | 67 => ⟨S8x20000, .f32⟩
  | 68 => ⟨S8x20000, .f32⟩
  | 69 => ⟨S8x1, .f32⟩
  | 70 => ⟨S8, .f32⟩
  | 71 => ⟨S8x20000x1, .f32⟩
  | 72 => ⟨S8x20000, .f32⟩
  | 73 => ⟨S8x1, .f32⟩
  | 74 => ⟨S8x20000, .f32⟩
  | 75 => ⟨S8x20000, .f32⟩
  | 76 => ⟨S8x1, .f32⟩
  | 77 => ⟨S8, .f32⟩
  | 78 => ⟨S8x20000x1, .f32⟩
  | 79 => ⟨S8x20000, .f32⟩
  | 80 => ⟨S8x1, .f32⟩
  | 81 => ⟨S8x20000, .f32⟩
  | 82 => ⟨S8x20000, .f32⟩
  | 83 => ⟨S8x1, .f32⟩
  | 84 => ⟨S8, .f32⟩
  | 85 => ⟨S8x20000x1, .f32⟩
  | 86 => ⟨S8x20000, .f32⟩
  | 87 => ⟨S8x1, .f32⟩
  | 88 => ⟨S8x20000, .f32⟩
  | 89 => ⟨S8x20000, .f32⟩
  | 90 => ⟨S8x20000, .f32⟩
  | 91 => ⟨S_, .f32⟩
  | 92 => ⟨S8x20000, .f32⟩
  | 93 => ⟨S8x20000, .f32⟩
  | 94 => ⟨S8x20000, .f32⟩
  | 95 => ⟨S_, .f32⟩
  | 96 => ⟨S8x20000, .f32⟩
  | 97 => ⟨S8x20000, .f32⟩
  | 98 => ⟨S8x20000, .f32⟩
  | 99 => ⟨S8x1, .f32⟩
  | 100 => ⟨S8, .f32⟩
  | 101 => ⟨S8x1, .f32⟩
  | 102 => ⟨S8, .f32⟩
  | 103 => ⟨S8, .f32⟩
  | 104 => ⟨S8x1, .f32⟩
  | 105 => ⟨S8, .f32⟩
  | 106 => ⟨S8x1, .f32⟩
  | 107 => ⟨S8, .f32⟩
  | 108 => ⟨S8, .f32⟩
  | 109 => ⟨S8, .f32⟩
  | 110 => ⟨S8x20000x1, .f32⟩
  | 111 => ⟨S8x20000, .f32⟩
  | 112 => ⟨S8x20000x1, .f32⟩
  | 113 => ⟨S8x20000, .f32⟩
  | 114 => ⟨S8x20000, .f32⟩
  | 115 => ⟨S8x20000x1, .f32⟩
  | 116 => ⟨S8x20000, .f32⟩
  | 117 => ⟨S8x20000x1, .f32⟩
  | 118 => ⟨S8x20000, .f32⟩
  | 119 => ⟨S8x20000, .f32⟩
  | 120 => ⟨S8x20000, .f32⟩
  | 121 => ⟨S8x1, .f32⟩
  | 122 => ⟨S8x20000, .f32⟩
  | 123 => ⟨S8x20000, .f32⟩
  | 124 => ⟨S8x20000, .f32⟩
  | 125 => ⟨S_, .f32⟩
  | 126 => ⟨S8x20000, .f32⟩
  | 127 => ⟨S8x20000, .f32⟩
  | _ => ⟨S8x20000x4, .f32⟩

abbrev hbmTy0_1 (i : Nat) : BufTy := match i % 128 with
  | 0 => ⟨S8x20000, .f32⟩
  | 1 => ⟨S_, .f32⟩
  | 2 => ⟨S8x20000, .f32⟩
  | 3 => ⟨S8x20000, .i1⟩
  | 4 => ⟨S_, .f32⟩
  | 5 => ⟨S_, .f32⟩
  | 6 => ⟨S20000, .f32⟩
  | 7 => ⟨S8x20000, .f32⟩
  | 8 => ⟨S8x20000, .f32⟩
  | 9 => ⟨S20000, .i32⟩
  | 10 => ⟨S1x20000, .i32⟩
  | 11 => ⟨S8x1, .i32⟩
  | 12 => ⟨S8x20000, .i32⟩
  | 13 => ⟨S8x20000, .i32⟩
  | 14 => ⟨S8x20000, .i1⟩
  | 15 => ⟨S_, .f32⟩
  | 16 => ⟨S_, .f32⟩
  | 17 => ⟨S20000, .f32⟩
  | 18 => ⟨S8x20000, .f32⟩
  | 19 => ⟨S8x20000, .f32⟩
  | 20 => ⟨S1x8, .i32⟩
  | 21 => ⟨S_, .i32⟩
  | 22 => ⟨S100x8, .i32⟩
  | 23 => ⟨S1x8, .f32⟩
  | 24 => ⟨S_, .i32⟩
  | 25 => ⟨S100x8, .f32⟩
  | 26 => ⟨S1x8, .i1⟩
  | 27 => ⟨S_, .i32⟩
  | 28 => ⟨S100x8, .i1⟩
  | 29 => ⟨S_, .i32⟩
  | 30 => ⟨S_, .i32⟩
  | 31 => ⟨S100x8, .i32⟩
  | 32 => ⟨S_, .i32⟩
  | 33 => ⟨S8, .i32⟩
  | 34 => ⟨S100, .i32⟩
  | 35 => ⟨S1x100, .i32⟩
  | 36 => ⟨S8x1, .i32⟩
  | 37 => ⟨S8x100, .i32⟩
  | 38 => ⟨S8x100, .i32⟩
  | 39 => ⟨S8x100, .i1⟩
  | 40 => ⟨S8x100x1, .i1⟩
  | 41 => ⟨S_, .i32⟩
  | 42 => ⟨S100x8, .i32⟩
  | 43 => ⟨S100x8, .i1⟩
  | 44 => ⟨S_, .i32⟩
  | 45 => ⟨S100x8, .i32⟩
  | 46 => ⟨S100x8, .i32⟩
  | 47 => ⟨S100x8, .i32⟩
  | 48 => ⟨S8x100, .i32⟩
  | 49 => ⟨S8x100x1, .i32⟩
  | 50 => ⟨S1, .i32⟩
  | 51 => ⟨S_, .i32⟩
  | 52 => ⟨S8x100x1, .i32⟩
  | 53 => ⟨S8x100x1, .i1⟩
  | 54 => ⟨S1x1x1, .i32⟩
  | 55 => ⟨S8x100x1, .i32⟩
  | 56 => ⟨S8x100x1, .i1⟩
  | 57 => ⟨S8x100x1, .i1⟩
  | 58 => ⟨S_, .i1⟩
  | 59 => ⟨S8x100, .i1⟩
  | 60 => ⟨S8x100x4, .f32⟩
  | 61 => ⟨S8x100x4, .i1⟩
  | 62 => ⟨S_, .f32⟩
  | 63 => ⟨S8x100x4, .f32⟩
  | 64 => ⟨S8x100x4, .f32⟩
  | 65 => ⟨S_, .f32⟩
  | 66 => ⟨S_, .f32⟩
  | 67 => ⟨S8x100x4, .i1⟩
  | 68 => ⟨S100x4, .f32⟩
  | 69 => ⟨S8x100x4, .f32⟩
  | 70 => ⟨S8x100x4, .f32⟩
  | 71 => ⟨S_, .i32⟩
  | 72 => ⟨S100x8, .i32⟩
  | 73 => ⟨S100x8, .i1⟩
  | 74 => ⟨S_, .i32⟩
  | 75 => ⟨S100x8, .i32⟩
  | 76 => ⟨S100x8, .i32⟩
  | 77 => ⟨S100x8, .i32⟩
  | 78 => ⟨S8x100, .i32⟩
  | 79 => ⟨S8x100x1, .i32⟩
  | 80 => ⟨S1, .i32⟩
  | 81 => ⟨S_, .i32⟩
  | 82 => ⟨S8x100x1, .i32⟩
  | 83 => ⟨S8x100x1, .i1⟩
  | 84 => ⟨S1x1x1, .i32⟩
  | 85 => ⟨S8x100x1, .i32⟩
  | 86 => ⟨S8x100x1, .i1⟩
  | 87 => ⟨S8x100x1, .i1⟩
  | 88 => ⟨S_, .i1⟩
  | 89 => ⟨S8x100, .i1⟩
  | 90 => ⟨S8x100, .i32⟩
  | 91 => ⟨S_, .i32⟩
  | 92 => ⟨S8x100, .i32⟩
  | 93 => ⟨S8x100, .i32⟩
  | 94 => ⟨S_, .i32⟩
  | 95 => ⟨S_, .i32⟩
  | 96 => ⟨S100, .i32⟩
  | 97 => ⟨S8x100, .i32⟩
  | 98 => ⟨S8x100, .i32⟩
  | 99 => ⟨S_, .f32⟩
  | 100 => ⟨S_, .f32⟩
  | 101 => ⟨S100, .f32⟩
  | 102 => ⟨S8x100, .f32⟩
  | 103 => ⟨S8x100, .f32⟩
  | 104 => ⟨S8x100, .f32⟩
  | _ => ⟨S8x20000x4, .f32⟩

abbrev hbmTy (i : Nat) : BufTy := match i / 128 with
  | 0 => hbmTy0_0 i
  | 1 => hbmTy0_1 i
  | _ => ⟨S8x20000x4, .f32⟩

abbrev bufTy : (tb : Table) → Fin (tcTables nBuf tb) → BufTy
  | .hbm, ⟨i, _⟩ => hbmTy i
  | _, _ => ⟨S8x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_c_4 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v8_3 : Ref sig .tc := ⟨.hbm, 27, rfl⟩
abbrev main_v8_4 : Ref sig .tc := ⟨.hbm, 28, rfl⟩
abbrev main_v8_5 : Ref sig .tc := ⟨.hbm, 29, rfl⟩
abbrev main_while0c_c_14 : Ref sig .tc := ⟨.hbm, 30, rfl⟩
abbrev main_while0c_v23 : Ref sig .tc := ⟨.hbm, 31, rfl⟩
abbrev main_while0b_call2_v0 : Ref sig .tc := ⟨.hbm, 32, rfl⟩
abbrev main_while0b_call2_cst : Ref sig .tc := ⟨.hbm, 33, rfl⟩
abbrev main_while0b_call2_c : Ref sig .tc := ⟨.hbm, 34, rfl⟩
abbrev main_while0b_call2_v1_0 : Ref sig .tc := ⟨.hbm, 35, rfl⟩
abbrev main_while0b_v23 : Ref sig .tc := ⟨.hbm, 36, rfl⟩
abbrev main_while0b_v24 : Ref sig .tc := ⟨.hbm, 37, rfl⟩
abbrev main_while0b_c_14 : Ref sig .tc := ⟨.hbm, 38, rfl⟩
abbrev main_while0b_v25 : Ref sig .tc := ⟨.hbm, 39, rfl⟩
abbrev main_while0b_v26 : Ref sig .tc := ⟨.hbm, 40, rfl⟩
abbrev main_while0b_c_15 : Ref sig .tc := ⟨.hbm, 41, rfl⟩
abbrev main_while0b_v27 : Ref sig .tc := ⟨.hbm, 42, rfl⟩
abbrev main_while0b_v28 : Ref sig .tc := ⟨.hbm, 43, rfl⟩
abbrev main_while0b_v29 : Ref sig .tc := ⟨.hbm, 44, rfl⟩
abbrev main_while0b_v30 : Ref sig .tc := ⟨.hbm, 45, rfl⟩
abbrev main_while0b_v31 : Ref sig .tc := ⟨.hbm, 46, rfl⟩
abbrev main_while0b_v32 : Ref sig .tc := ⟨.hbm, 47, rfl⟩
abbrev main_while0b_cst_16 : Ref sig .tc := ⟨.hbm, 48, rfl⟩
abbrev main_while0b_v33 : Ref sig .tc := ⟨.hbm, 49, rfl⟩
abbrev main_while0b_v34 : Ref sig .tc := ⟨.hbm, 50, rfl⟩
abbrev main_while0b_v35 : Ref sig .tc := ⟨.hbm, 51, rfl⟩
abbrev main_while0b_c_17 : Ref sig .tc := ⟨.hbm, 52, rfl⟩
abbrev main_while0b_v36 : Ref sig .tc := ⟨.hbm, 53, rfl⟩
abbrev main_while0b_v37 : Ref sig .tc := ⟨.hbm, 54, rfl⟩
abbrev main_while0b_c_18 : Ref sig .tc := ⟨.hbm, 55, rfl⟩
abbrev main_while0b_v38 : Ref sig .tc := ⟨.hbm, 56, rfl⟩
abbrev main_while0b_v39 : Ref sig .tc := ⟨.hbm, 57, rfl⟩
abbrev main_while0b_v40 : Ref sig .tc := ⟨.hbm, 58, rfl⟩
abbrev main_while0b_v41 : Ref sig .tc := ⟨.hbm, 59, rfl⟩
abbrev main_while0b_v42 : Ref sig .tc := ⟨.hbm, 60, rfl⟩
abbrev main_while0b_v43 : Ref sig .tc := ⟨.hbm, 61, rfl⟩
abbrev main_while0b_v44 : Ref sig .tc := ⟨.hbm, 62, rfl⟩
abbrev main_while0b_v45 : Ref sig .tc := ⟨.hbm, 63, rfl⟩
abbrev main_while0b_v46 : Ref sig .tc := ⟨.hbm, 64, rfl⟩
abbrev main_while0b_v47 : Ref sig .tc := ⟨.hbm, 65, rfl⟩
abbrev main_while0b_v48 : Ref sig .tc := ⟨.hbm, 66, rfl⟩
abbrev main_while0b_v49 : Ref sig .tc := ⟨.hbm, 67, rfl⟩
abbrev main_while0b_v50 : Ref sig .tc := ⟨.hbm, 68, rfl⟩
abbrev main_while0b_v51 : Ref sig .tc := ⟨.hbm, 69, rfl⟩
abbrev main_while0b_v52 : Ref sig .tc := ⟨.hbm, 70, rfl⟩
abbrev main_while0b_v53 : Ref sig .tc := ⟨.hbm, 71, rfl⟩
abbrev main_while0b_v54 : Ref sig .tc := ⟨.hbm, 72, rfl⟩
abbrev main_while0b_v55 : Ref sig .tc := ⟨.hbm, 73, rfl⟩
abbrev main_while0b_v56 : Ref sig .tc := ⟨.hbm, 74, rfl⟩
abbrev main_while0b_v57 : Ref sig .tc := ⟨.hbm, 75, rfl⟩
abbrev main_while0b_v58 : Ref sig .tc := ⟨.hbm, 76, rfl⟩
abbrev main_while0b_v59 : Ref sig .tc := ⟨.hbm, 77, rfl⟩
abbrev main_while0b_v60 : Ref sig .tc := ⟨.hbm, 78, rfl⟩
abbrev main_while0b_v61 : Ref sig .tc := ⟨.hbm, 79, rfl⟩
abbrev main_while0b_v62 : Ref sig .tc := ⟨.hbm, 80, rfl⟩
abbrev main_while0b_v63 : Ref sig .tc := ⟨.hbm, 81, rfl⟩
abbrev main_while0b_v64 : Ref sig .tc := ⟨.hbm, 82, rfl⟩
abbrev main_while0b_v65 : Ref sig .tc := ⟨.hbm, 83, rfl⟩
abbrev main_while0b_v66 : Ref sig .tc := ⟨.hbm, 84, rfl⟩
abbrev main_while0b_v67 : Ref sig .tc := ⟨.hbm, 85, rfl⟩
abbrev main_while0b_v68 : Ref sig .tc := ⟨.hbm, 86, rfl⟩
abbrev main_while0b_v69 : Ref sig .tc := ⟨.hbm, 87, rfl⟩
abbrev main_while0b_v70 : Ref sig .tc := ⟨.hbm, 88, rfl⟩
abbrev main_while0b_v71 : Ref sig .tc := ⟨.hbm, 89, rfl⟩
abbrev main_while0b_v72 : Ref sig .tc := ⟨.hbm, 90, rfl⟩
abbrev main_while0b_cst_19 : Ref sig .tc := ⟨.hbm, 91, rfl⟩
abbrev main_while0b_v73 : Ref sig .tc := ⟨.hbm, 92, rfl⟩
abbrev main_while0b_v74 : Ref sig .tc := ⟨.hbm, 93, rfl⟩
abbrev main_while0b_v75 : Ref sig .tc := ⟨.hbm, 94, rfl⟩
abbrev main_while0b_cst_20 : Ref sig .tc := ⟨.hbm, 95, rfl⟩
abbrev main_while0b_v76 : Ref sig .tc := ⟨.hbm, 96, rfl⟩
abbrev main_while0b_v77 : Ref sig .tc := ⟨.hbm, 97, rfl⟩
abbrev main_while0b_v78 : Ref sig .tc := ⟨.hbm, 98, rfl⟩
abbrev main_while0b_v79 : Ref sig .tc := ⟨.hbm, 99, rfl⟩
abbrev main_while0b_v80 : Ref sig .tc := ⟨.hbm, 100, rfl⟩
abbrev main_while0b_v81 : Ref sig .tc := ⟨.hbm, 101, rfl⟩
abbrev main_while0b_v82 : Ref sig .tc := ⟨.hbm, 102, rfl⟩
abbrev main_while0b_v83 : Ref sig .tc := ⟨.hbm, 103, rfl⟩
abbrev main_while0b_v84 : Ref sig .tc := ⟨.hbm, 104, rfl⟩
abbrev main_while0b_v85 : Ref sig .tc := ⟨.hbm, 105, rfl⟩
abbrev main_while0b_v86 : Ref sig .tc := ⟨.hbm, 106, rfl⟩
abbrev main_while0b_v87 : Ref sig .tc := ⟨.hbm, 107, rfl⟩
abbrev main_while0b_v88 : Ref sig .tc := ⟨.hbm, 108, rfl⟩
abbrev main_while0b_v89 : Ref sig .tc := ⟨.hbm, 109, rfl⟩
abbrev main_while0b_v90 : Ref sig .tc := ⟨.hbm, 110, rfl⟩
abbrev main_while0b_v91 : Ref sig .tc := ⟨.hbm, 111, rfl⟩
abbrev main_while0b_v92 : Ref sig .tc := ⟨.hbm, 112, rfl⟩
abbrev main_while0b_v93 : Ref sig .tc := ⟨.hbm, 113, rfl⟩
abbrev main_while0b_v94 : Ref sig .tc := ⟨.hbm, 114, rfl⟩
abbrev main_while0b_v95 : Ref sig .tc := ⟨.hbm, 115, rfl⟩
abbrev main_while0b_v96 : Ref sig .tc := ⟨.hbm, 116, rfl⟩
abbrev main_while0b_v97 : Ref sig .tc := ⟨.hbm, 117, rfl⟩
abbrev main_while0b_v98 : Ref sig .tc := ⟨.hbm, 118, rfl⟩
abbrev main_while0b_v99 : Ref sig .tc := ⟨.hbm, 119, rfl⟩
abbrev main_while0b_v100 : Ref sig .tc := ⟨.hbm, 120, rfl⟩
abbrev main_while0b_v101 : Ref sig .tc := ⟨.hbm, 121, rfl⟩
abbrev main_while0b_v102 : Ref sig .tc := ⟨.hbm, 122, rfl⟩
abbrev main_while0b_v103 : Ref sig .tc := ⟨.hbm, 123, rfl⟩
abbrev main_while0b_v104 : Ref sig .tc := ⟨.hbm, 124, rfl⟩
abbrev main_while0b_cst_21 : Ref sig .tc := ⟨.hbm, 125, rfl⟩
abbrev main_while0b_v105 : Ref sig .tc := ⟨.hbm, 126, rfl⟩
abbrev main_while0b_v106 : Ref sig .tc := ⟨.hbm, 127, rfl⟩
abbrev main_while0b_v107 : Ref sig .tc := ⟨.hbm, 128, rfl⟩
abbrev main_while0b_cst_22 : Ref sig .tc := ⟨.hbm, 129, rfl⟩
abbrev main_while0b_v108 : Ref sig .tc := ⟨.hbm, 130, rfl⟩
abbrev main_while0b_v109 : Ref sig .tc := ⟨.hbm, 131, rfl⟩
abbrev main_while0b_cst_23 : Ref sig .tc := ⟨.hbm, 132, rfl⟩
abbrev main_while0b_call3_v0 : Ref sig .tc := ⟨.hbm, 133, rfl⟩
abbrev main_while0b_call3_v1 : Ref sig .tc := ⟨.hbm, 134, rfl⟩
abbrev main_while0b_call3_v2 : Ref sig .tc := ⟨.hbm, 135, rfl⟩
abbrev main_while0b_v110 : Ref sig .tc := ⟨.hbm, 136, rfl⟩
abbrev main_while0b_v111 : Ref sig .tc := ⟨.hbm, 137, rfl⟩
abbrev main_while0b_v112 : Ref sig .tc := ⟨.hbm, 138, rfl⟩
abbrev main_while0b_v113 : Ref sig .tc := ⟨.hbm, 139, rfl⟩
abbrev main_while0b_v114 : Ref sig .tc := ⟨.hbm, 140, rfl⟩
abbrev main_while0b_v115 : Ref sig .tc := ⟨.hbm, 141, rfl⟩
abbrev main_while0b_v116 : Ref sig .tc := ⟨.hbm, 142, rfl⟩
abbrev main_while0b_cst_24 : Ref sig .tc := ⟨.hbm, 143, rfl⟩
abbrev main_while0b_call4_v0 : Ref sig .tc := ⟨.hbm, 144, rfl⟩
abbrev main_while0b_call4_v1 : Ref sig .tc := ⟨.hbm, 145, rfl⟩
abbrev main_while0b_call4_v2 : Ref sig .tc := ⟨.hbm, 146, rfl⟩
abbrev main_while0b_v117 : Ref sig .tc := ⟨.hbm, 147, rfl⟩
abbrev main_while0b_call5_v0 : Ref sig .tc := ⟨.hbm, 148, rfl⟩
abbrev main_while0b_call5_c : Ref sig .tc := ⟨.hbm, 149, rfl⟩
abbrev main_while0b_v118 : Ref sig .tc := ⟨.hbm, 150, rfl⟩
abbrev main_while0b_call6_v0 : Ref sig .tc := ⟨.hbm, 151, rfl⟩
abbrev main_while0b_call6_c : Ref sig .tc := ⟨.hbm, 152, rfl⟩
abbrev main_while0b_v119 : Ref sig .tc := ⟨.hbm, 153, rfl⟩
abbrev main_while0b_call7_v0 : Ref sig .tc := ⟨.hbm, 154, rfl⟩
abbrev main_while0b_call7_c : Ref sig .tc := ⟨.hbm, 155, rfl⟩
abbrev main_while0b_v120 : Ref sig .tc := ⟨.hbm, 156, rfl⟩
abbrev main_while0b_c_25 : Ref sig .tc := ⟨.hbm, 157, rfl⟩
abbrev main_while0b_v121 : Ref sig .tc := ⟨.hbm, 158, rfl⟩
abbrev main_v9 : Ref sig .tc := ⟨.hbm, 159, rfl⟩
abbrev main_c_5 : Ref sig .tc := ⟨.hbm, 160, rfl⟩
abbrev main_v10 : Ref sig .tc := ⟨.hbm, 161, rfl⟩
abbrev main_v11 : Ref sig .tc := ⟨.hbm, 162, rfl⟩
abbrev main_v12 : Ref sig .tc := ⟨.hbm, 163, rfl⟩
abbrev main_v13 : Ref sig .tc := ⟨.hbm, 164, rfl⟩
abbrev main_v14 : Ref sig .tc := ⟨.hbm, 165, rfl⟩
abbrev main_v15 : Ref sig .tc := ⟨.hbm, 166, rfl⟩
abbrev main_v16 : Ref sig .tc := ⟨.hbm, 167, rfl⟩
abbrev main_v17 : Ref sig .tc := ⟨.hbm, 168, rfl⟩
abbrev main_call8_c : Ref sig .tc := ⟨.hbm, 169, rfl⟩
abbrev main_call8_v0 : Ref sig .tc := ⟨.hbm, 170, rfl⟩
abbrev main_call8_v1 : Ref sig .tc := ⟨.hbm, 171, rfl⟩
abbrev main_call8_c_0 : Ref sig .tc := ⟨.hbm, 172, rfl⟩
abbrev main_call8_v2 : Ref sig .tc := ⟨.hbm, 173, rfl⟩
abbrev main_call8_v3 : Ref sig .tc := ⟨.hbm, 174, rfl⟩
abbrev main_call8_v4 : Ref sig .tc := ⟨.hbm, 175, rfl⟩
abbrev main_call8_v5 : Ref sig .tc := ⟨.hbm, 176, rfl⟩
abbrev main_call8_v6 : Ref sig .tc := ⟨.hbm, 177, rfl⟩
abbrev main_call8_c_1 : Ref sig .tc := ⟨.hbm, 178, rfl⟩
abbrev main_call8_c_2 : Ref sig .tc := ⟨.hbm, 179, rfl⟩
abbrev main_call8_v7 : Ref sig .tc := ⟨.hbm, 180, rfl⟩
abbrev main_call8_v8 : Ref sig .tc := ⟨.hbm, 181, rfl⟩
abbrev main_call8_v9 : Ref sig .tc := ⟨.hbm, 182, rfl⟩
abbrev main_call8_v10 : Ref sig .tc := ⟨.hbm, 183, rfl⟩
abbrev main_call8_v11 : Ref sig .tc := ⟨.hbm, 184, rfl⟩
abbrev main_call8_v12 : Ref sig .tc := ⟨.hbm, 185, rfl⟩
abbrev main_call8_c_3 : Ref sig .tc := ⟨.hbm, 186, rfl⟩
abbrev main_call8_v13 : Ref sig .tc := ⟨.hbm, 187, rfl⟩
abbrev main_call8_v14 : Ref sig .tc := ⟨.hbm, 188, rfl⟩
abbrev main_call8_v15 : Ref sig .tc := ⟨.hbm, 189, rfl⟩
abbrev main_call8_cst : Ref sig .tc := ⟨.hbm, 190, rfl⟩
abbrev main_call8_v16 : Ref sig .tc := ⟨.hbm, 191, rfl⟩
abbrev main_v18 : Ref sig .tc := ⟨.hbm, 192, rfl⟩
abbrev main_cst_6 : Ref sig .tc := ⟨.hbm, 193, rfl⟩
abbrev main_call9_v0 : Ref sig .tc := ⟨.hbm, 194, rfl⟩
abbrev main_call9_v1 : Ref sig .tc := ⟨.hbm, 195, rfl⟩
abbrev main_call9_v2 : Ref sig .tc := ⟨.hbm, 196, rfl⟩
abbrev main_call9_v3 : Ref sig .tc := ⟨.hbm, 197, rfl⟩
abbrev main_v19 : Ref sig .tc := ⟨.hbm, 198, rfl⟩
abbrev main_call10_c : Ref sig .tc := ⟨.hbm, 199, rfl⟩
abbrev main_call10_v0 : Ref sig .tc := ⟨.hbm, 200, rfl⟩
abbrev main_call10_v1 : Ref sig .tc := ⟨.hbm, 201, rfl⟩
abbrev main_call10_c_0 : Ref sig .tc := ⟨.hbm, 202, rfl⟩
abbrev main_call10_v2 : Ref sig .tc := ⟨.hbm, 203, rfl⟩
abbrev main_call10_v3 : Ref sig .tc := ⟨.hbm, 204, rfl⟩
abbrev main_call10_v4 : Ref sig .tc := ⟨.hbm, 205, rfl⟩
abbrev main_call10_v5 : Ref sig .tc := ⟨.hbm, 206, rfl⟩
abbrev main_call10_v6 : Ref sig .tc := ⟨.hbm, 207, rfl⟩
abbrev main_call10_c_1 : Ref sig .tc := ⟨.hbm, 208, rfl⟩
abbrev main_call10_c_2 : Ref sig .tc := ⟨.hbm, 209, rfl⟩
abbrev main_call10_v7 : Ref sig .tc := ⟨.hbm, 210, rfl⟩
abbrev main_call10_v8 : Ref sig .tc := ⟨.hbm, 211, rfl⟩
abbrev main_call10_v9 : Ref sig .tc := ⟨.hbm, 212, rfl⟩
abbrev main_call10_v10 : Ref sig .tc := ⟨.hbm, 213, rfl⟩
abbrev main_call10_v11 : Ref sig .tc := ⟨.hbm, 214, rfl⟩
abbrev main_call10_v12 : Ref sig .tc := ⟨.hbm, 215, rfl⟩
abbrev main_call10_c_3 : Ref sig .tc := ⟨.hbm, 216, rfl⟩
abbrev main_call10_v13 : Ref sig .tc := ⟨.hbm, 217, rfl⟩
abbrev main_call10_v14 : Ref sig .tc := ⟨.hbm, 218, rfl⟩
abbrev main_call10_c_4 : Ref sig .tc := ⟨.hbm, 219, rfl⟩
abbrev main_call10_v15 : Ref sig .tc := ⟨.hbm, 220, rfl⟩
abbrev main_v20 : Ref sig .tc := ⟨.hbm, 221, rfl⟩
abbrev main_c_7 : Ref sig .tc := ⟨.hbm, 222, rfl⟩
abbrev main_call11_v0 : Ref sig .tc := ⟨.hbm, 223, rfl⟩
abbrev main_call11_v1 : Ref sig .tc := ⟨.hbm, 224, rfl⟩
abbrev main_call11_v2 : Ref sig .tc := ⟨.hbm, 225, rfl⟩
abbrev main_v21 : Ref sig .tc := ⟨.hbm, 226, rfl⟩
abbrev main_cst_8 : Ref sig .tc := ⟨.hbm, 227, rfl⟩
abbrev main_call12_v0 : Ref sig .tc := ⟨.hbm, 228, rfl⟩
abbrev main_call12_v1 : Ref sig .tc := ⟨.hbm, 229, rfl⟩
abbrev main_call12_v2 : Ref sig .tc := ⟨.hbm, 230, rfl⟩
abbrev main_call12_v3 : Ref sig .tc := ⟨.hbm, 231, rfl⟩
abbrev main_v22 : Ref sig .tc := ⟨.hbm, 232, rfl⟩

abbrev nD : Nat := 1
abbrev τ : Topo := Topo.v7x

variable {F : FTy → Type} [FloatOps F]

abbrev main_while0_count : Scf.Loop 32 := ⟨0#32, 100#32, 1#32⟩
-- ==== Proof.PI.Body.lean ====
/-
  The two kernel bodies of the program, run.

  `cc0__class_reduce_body` loads one block of 2000 boxes by 91 class scores and stores the largest score and the
  first class holding it. `cc1__nms_body` loads the padded scores, classes and the four coordinates, makes 100
  suppression trips over values it carries, and stores what they carried. A trip touches no memory, so the loop is
  the value `stAt 100`: the trip's function iterated.
-/
module

public import proofs.«01_k».proof.Proof.Gen.KernelIdeal.Regions
public import proofs.«01_k».proof.Proof.Gen.KernelIdeal.Skeleton
public import Idealize.ShloMosaic.Lib.Tactic

@[expose] public section

noncomputable section

namespace Cert.KernelIdeal.Nms

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the run: the pipelines' own. -/
abbrev UU : Type := UR sig nD τ

local notation "𝕄" => MT nD τ sig Unit (Elt F) ℕ UU ℕ

/-- The buffer of memref `M` on core `c`: the type of its contents. -/
abbrev Bf (c : Dev nD) {sp : Space} {S : Shape} {e : EltTy} (M : Memref sig .tc sp S e) : Type := Buf (Elt F) (M.view.loc (c : Thread nD τ))

/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

/-! ### The suppression loop as a value -/

/-- What the suppression loop carries: the live scores, the five float columns kept so far, the classes kept and the
    count of valid trips. -/
abbrev St (F : FTy → Type) : Type :=
  FVec F S8x20480 .f32 × FVec F S8x128 .f32 × FVec F S8x128 .f32 × FVec F S8x128 .f32 × FVec F S8x128 .f32
    × FVec F S8x128 .f32 × IVec S8x128 32 × IVec S8x1 32

/-- The lane numbers of a row. -/
abbrev laneIx : IVec S8x20480 32 := iota .tc S8x20480 32 [1] iota_S8x20480_d1_w32

/-- One suppression trip over the classes `cl` and the coordinates, at trip number `n`. -/
def trip (cl : Vec F S8x20480 .i32) (y1 x1 y2 x2 : Vec F S8x20480 .f32) (n : BitVec 32) (a : St F) : St F :=
  (k1_pay23 y1 x1 y2 x2 a.1 (k1_pay4 laneIx a.1)
      (k1_pay10 (k1_pay15 y1) (k1_pay16 x1) (k1_pay17 y2) (k1_pay18 x2) laneIx a.1)
      (k1_pay11 (k1_pay16 x1) laneIx a.1) (k1_pay12 (k1_pay18 x2) laneIx a.1)
      (k1_pay13 (k1_pay15 y1) (k1_pay17 y2) laneIx a.1) (Scalar.ofBits .f32 0x00000000#32),
    k1_pay25 a.2.1 n (k1_pay2 a.1) (k1_pay3 a.1),
    k1_pay26 a.2.2.1 n (k1_pay3 a.1) (k1_pay5 (k1_pay15 y1) laneIx a.1),
    k1_pay27 a.2.2.2.1 n (k1_pay3 a.1) (k1_pay6 (k1_pay16 x1) laneIx a.1),
    k1_pay28 a.2.2.2.2.1 n (k1_pay3 a.1) (k1_pay7 (k1_pay17 y2) laneIx a.1),
    k1_pay29 a.2.2.2.2.2.1 n (k1_pay3 a.1) (k1_pay8 (k1_pay18 x2) laneIx a.1),
    k1_pay30 a.2.2.2.2.2.2.1 n (k1_pay3 a.1) (k1_pay9 (k1_pay14 cl) laneIx a.1),
    k1_pay31 a.2.2.2.2.2.2.2 (k1_pay3 a.1))

/-- What the loop carries in: the thresholded scores, the columns at −1, the count at 0. -/
def start (sc : Vec F S8x20480 .f32) : St F :=
  (k1_pay19 sc, k1_pay20 (F := F), k1_pay20 (F := F), k1_pay20 (F := F), k1_pay20 (F := F), k1_pay20 (F := F), k1_pay21, k1_pay22)

/-- What the loop carries after `k` trips. -/
def stAt (sc : Vec F S8x20480 .f32) (cl : Vec F S8x20480 .i32) (y1 x1 y2 x2 : Vec F S8x20480 .f32) : ℕ → St F
  | 0 => start sc
  | k + 1 => trip cl y1 x1 y2 x2 (Scf.iv 0#32 1#32 k) (stAt sc cl y1 x1 y2 x2 k)

/-- Trips that return a value each, in order, return the fold of the values. -/
theorem forFrom_pure.{v} {E : Type → Type v} {σ : Type} {n : ℕ} (body : Fin n → σ → Prog E σ) (f : Fin n → σ → σ)
    (h : ∀ k a, body k a = Pure.pure (f k a)) : ∀ (ks : List (Fin n)) (a : σ), Scf.forFrom body ks a = Pure.pure (ks.foldl (fun a k => f k a) a)
  | [], _ => rfl
  | k :: ks, a => by
    rw [Scf.forFrom_cons, h k a, pure_bind, forFrom_pure body f h ks, List.foldl_cons]

/-- The fold over the first `n` trip numbers is the iterate. -/
theorem fold_eq {σ : Type} (g : ℕ → σ → σ) (T : ℕ → σ) (h : ∀ k, T (k + 1) = g k (T k)) (n : ℕ) :
    (List.finRange n).foldl (fun a k => g k.val a) (T 0) = T n := by
  have e : (List.finRange n).foldl (fun a k => g k.val a) (T 0) = (List.range n).foldl (fun a k => g k a) (T 0) := by
    rw [← List.map_coe_finRange_eq_range, List.foldl_map]
  rw [e]
  induction n with
  | zero => rfl
  | succ n ih =>
    have e' : (List.finRange n).foldl (fun a k => g k.val a) (T 0) = (List.range n).foldl (fun a k => g k a) (T 0) := by
      rw [← List.map_coe_finRange_eq_range, List.foldl_map]
    rw [List.range_succ, List.foldl_append, ih e', List.foldl_cons, List.foldl_nil, h]

section
variable (arg0 : Memref sig .tc .vmem S8x20480 .f32) (harg0 : arg0.IsWhole) (arg1 : Memref sig .tc .vmem S8x20480 .i32) (harg1 : arg1.IsWhole)
  (arg2 : Memref sig .tc .vmem S8x20480 .f32) (harg2 : arg2.IsWhole) (arg3 : Memref sig .tc .vmem S8x20480 .f32) (harg3 : arg3.IsWhole)
  (arg4 : Memref sig .tc .vmem S8x20480 .f32) (harg4 : arg4.IsWhole) (arg5 : Memref sig .tc .vmem S8x20480 .f32) (harg5 : arg5.IsWhole)
  (arg6 : Memref sig .tc .vmem S8x128 .f32) (harg6 : arg6.IsWhole) (arg7 : Memref sig .tc .vmem S8x128 .f32) (harg7 : arg7.IsWhole)
  (arg8 : Memref sig .tc .vmem S8x128 .f32) (harg8 : arg8.IsWhole) (arg9 : Memref sig .tc .vmem S8x128 .f32) (harg9 : arg9.IsWhole)
  (arg10 : Memref sig .tc .vmem S8x128 .f32) (harg10 : arg10.IsWhole) (arg11 : Memref sig .tc .vmem S8x128 .i32) (harg11 : arg11.IsWhole)
  (arg12 : Memref sig .tc .vmem S8x128 .i32) (harg12 : arg12.IsWhole)

/-- The suppression loop returns what it carries after 100 trips. -/
theorem loop_eq (sc : Vec F S8x20480 .f32) (cl : Vec F S8x20480 .i32) (y1 x1 y2 x2 : Vec F S8x20480 .f32)
    (ix : IVec S8x20480 32) (hix : ix = laneIx) :
    Scf.Loop.for k1_t1_loop k1_t1_ok (k1_pay19 sc, k1_pay20 (F := F), k1_pay20 (F := F), k1_pay20 (F := F), k1_pay20 (F := F), k1_pay20 (F := F), k1_pay21, k1_pay22)
      (k1_t1_body arg0 harg0 arg1 harg1 arg2 harg2 arg3 harg3 arg4 harg4 arg5 harg5 arg6 harg6 arg7 harg7 arg8 harg8 arg9 harg9 arg10 harg10 arg11 harg11 arg12 harg12
        cl y1 x1 y2 x2 ix)
      = (Pure.pure (stAt sc cl y1 x1 y2 x2 100) : Prog (TpuEff nD τ sig (Elt F) Λ₀ .tc) (St F)) := by
  subst hix
  unfold Scf.Loop.for
  rw [Scf.for_eq, forFrom_pure _ (fun k => trip cl y1 x1 y2 x2 (Scf.iv 0#32 1#32 k.val)) (fun k a => by
    obtain ⟨a1, a2, a3, a4, a5, a6, a7, a8⟩ := a
    rw [k1_t1_body, k1_part1_eq_skeleton]
    rfl)]
  exact congrArg Pure.pure (fold_eq (fun k => trip cl y1 x1 y2 x2 (Scf.iv 0#32 1#32 k)) (stAt sc cl y1 x1 y2 x2) (fun _ => rfl) _)
end

/-! ### The class-reduction body -/

/-- From its three staging buffers held whole the class-reduction body runs to its return: the scores' as it was,
    the largest scores' and the classes' as the witness says. -/
def reduceRun (c : Dev nD) (M0 : Memref sig .tc .vmem S1x2000x91 .f32) (h0 : M0.IsWhole) (M1 : Memref sig .tc .vmem S1x2000x1 .f32) (h1 : M1.IsWhole)
    (M2 : Memref sig .tc .vmem S1x2000x1 .i32) (h2 : M2.IsWhole) (i : grid0.Coords) (f0 : Bf (F := F) c M0) :
    { W : Bf (F := F) c M1 × Bf (F := F) c M2 // ∀ (f1 : Bf (F := F) c M1) (f2 : Bf (F := F) c M2) (E : Set ℕ) (Q : PUnit → sProp 𝕄),
        iprop(pt c M0 f0 ∗ pt c M1 f1 ∗ pt c M2 f2 ∗ (iprop(pt c M0 f0 ∗ pt c M1 W.1 ∗ pt c M2 W.2) -∗ Q ⟨⟩))
          ⊢ wp frame (wpE (defs₀ (F := F)) Variants.none c none) E (cc0__class_reduce_body i M0 h0 M1 h1 M2 h2) Q } := by
  refine ⟨(?_, ?_), fun f1 f2 E Q => ?run⟩
  case run =>
    iintro ⟨H0, H1, H2, Hk⟩
    sl_exec!
    sl_step
    iapply Hk
    isplitl [H0]; · iexact H0
    isplitl [H1]; · iexact H1
    iexact H2

/-! ### The suppression body -/

set_option maxHeartbeats 4000000 in
/-- From its thirteen staging buffers held whole the suppression body runs to its return: the six it reads as they
    were, the seven it writes as the witness says. -/
def nmsRun (c : Dev nD)
    (M0 : Memref sig .tc .vmem S8x20480 .f32) (h0 : M0.IsWhole)
    (M1 : Memref sig .tc .vmem S8x20480 .i32) (h1 : M1.IsWhole)
    (M2 : Memref sig .tc .vmem S8x20480 .f32) (h2 : M2.IsWhole)
    (M3 : Memref sig .tc .vmem S8x20480 .f32) (h3 : M3.IsWhole)
    (M4 : Memref sig .tc .vmem S8x20480 .f32) (h4 : M4.IsWhole)
    (M5 : Memref sig .tc .vmem S8x20480 .f32) (h5 : M5.IsWhole)
    (M6 : Memref sig .tc .vmem S8x128 .f32) (h6 : M6.IsWhole)
    (M7 : Memref sig .tc .vmem S8x128 .f32) (h7 : M7.IsWhole)
    (M8 : Memref sig .tc .vmem S8x128 .f32) (h8 : M8.IsWhole)
    (M9 : Memref sig .tc .vmem S8x128 .f32) (h9 : M9.IsWhole)
    (M10 : Memref sig .tc .vmem S8x128 .f32) (h10 : M10.IsWhole)
    (M11 : Memref sig .tc .vmem S8x128 .i32) (h11 : M11.IsWhole)
    (M12 : Memref sig .tc .vmem S8x128 .i32) (h12 : M12.IsWhole)
    (f0 : Bf (F := F) c M0)  (f1 : Bf (F := F) c M1)  (f2 : Bf (F := F) c M2)  (f3 : Bf (F := F) c M3)  (f4 : Bf (F := F) c M4)  (f5 : Bf (F := F) c M5) :
    { W : Bf (F := F) c M6 × Bf (F := F) c M7 × Bf (F := F) c M8 × Bf (F := F) c M9 × Bf (F := F) c M10 × Bf (F := F) c M11 × Bf (F := F) c M12 //
      ∀ (f6 : Bf (F := F) c M6) (f7 : Bf (F := F) c M7) (f8 : Bf (F := F) c M8) (f9 : Bf (F := F) c M9) (f10 : Bf (F := F) c M10) (f11 : Bf (F := F) c M11) (f12 : Bf (F := F) c M12) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(pt c M0 f0 ∗ pt c M1 f1 ∗ pt c M2 f2 ∗ pt c M3 f3 ∗ pt c M4 f4 ∗ pt c M5 f5 ∗ pt c M6 W.1 ∗ pt c M7 W.2.1 ∗ pt c M8 W.2.2.1 ∗ pt c M9 W.2.2.2.1 ∗ pt c M10 W.2.2.2.2.1 ∗ pt c M11 W.2.2.2.2.2.1 ∗ pt c M12 W.2.2.2.2.2.2) -∗ Q ⟨⟩))
          ⊢ wp frame (wpE (defs₀ (F := F)) Variants.none c none) E (cc1__nms_body M0 h0 M1 h1 M2 h2 M3 h3 M4 h4 M5 h5 M6 h6 M7 h7 M8 h8 M9 h9 M10 h10 M11 h11 M12 h12) Q } := by
  refine ⟨(?_, ?_, ?_, ?_, ?_, ?_, ?_), fun f6 f7 f8 f9 f10 f11 f12 E Q => ?run⟩
  case run =>
    iintro ⟨H0, H1, H2, H3, H4, H5, H6, H7, H8, H9, H10, H11, H12, Hk⟩
    sl_exec!
    erw [loop_eq (hix := rfl)]
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.KernelIdeal.Nms

end
-- ==== Proof.PI.Value.lean ====
/-
  What the two kernel bodies leave in the buffers they write, as functions of what the buffers they read hold.
-/
module

public import proofs.«01_k».proof.Proof.PI.Body
public import Idealize.ShloMosaic.Lib.Pipeline.Value

@[expose] public section

noncomputable section

namespace Cert.KernelIdeal.Nms

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The zero offset of rank 2, -/
theorem hz2 : (![0, 0] : Fin 2 → Nat) = fun _ => 0 := funext fun a => by fin_cases a <;> rfl
/-- and of rank 3. -/
theorem hz3 : (![0, 0, 0] : Fin 3 → Nat) = fun _ => 0 := funext fun a => by fin_cases a <;> rfl

/-- A buffer written whole, once, reads what was written. -/
theorem read_whole_store {sp : Space} {S : Shape} {e : EltTy} (v : View sig .tc sp S e) (f : v.ty.Contents (Elt F)) (off : Fin S.rank → ℕ)
    (h0 : off = fun _ => 0) (inb) (w : S.Idx → Elt F e) :
    v.read (Elt F) (v.writes (Elt F) f [⟨Rect.unit (s := S) off S.size inb, w⟩]) = w := by
  subst h0
  rw [View.read_writes_eq_canon _ _ _ (fun y => ⟨_, List.mem_singleton.mpr rfl, by
    rw [Rect.mem_set_unit]; intro a; exact ⟨Nat.zero_le _, by rw [Nat.zero_add]; exact (y a).isLt⟩⟩)]
  exact View.canon_unit_zero (S := S) rfl inb w

/-- The class-reduction body leaves the block's largest scores and their first classes. -/
theorem reduce_read (c : Dev nD) (M0 : Memref sig .tc .vmem S1x2000x91 .f32) (h0 : M0.IsWhole) (M1 : Memref sig .tc .vmem S1x2000x1 .f32) (h1 : M1.IsWhole)
    (M2 : Memref sig .tc .vmem S1x2000x1 .i32) (h2 : M2.IsWhole) (i : grid0.Coords) (f0 : Bf (F := F) c M0) :
    M1.view.read (Elt F) (reduceRun c M0 h0 M1 h1 M2 h2 i f0).1.1 = k0_pay3 (M0.view.read (Elt F) f0)
      ∧ M2.view.read (Elt F) (reduceRun c M0 h0 M1 h1 M2 h2 i f0).1.2 = k0_pay4 (M0.view.read (Elt F) f0) := by
  have hld : ∀ (inb : _), View.readAt (Elt F) M0.view (Rect.unit (s := S1x2000x91) ![0, 0, 0] S1x2000x91.size inb).toLoadRect f0 = M0.view.read (Elt F) f0 := fun inb => by
    rw [View.readAt_eq_ld]; exact View.ld_unit_zero (S := S1x2000x91) hz3 inb _
  unfold reduceRun
  dsimp only
  sl_unfold_words
  constructor
  · rw [read_whole_store _ _ _ hz3, hld]
  · rw [read_whole_store _ _ _ hz3, hld]

/-- What the suppression loop carries at its end, over what the six buffers read hold. -/
abbrev endSt (sc : Vec F S8x20480 .f32) (cl : Vec F S8x20480 .i32) (y1 x1 y2 x2 : Vec F S8x20480 .f32) : St F := stAt sc cl y1 x1 y2 x2 100

set_option maxHeartbeats 2000000 in
/-- The suppression body leaves the columns its loop carried, and the count in every column. -/
theorem nms_read (c : Dev nD)
    (M0 : Memref sig .tc .vmem S8x20480 .f32) (h0 : M0.IsWhole)
    (M1 : Memref sig .tc .vmem S8x20480 .i32) (h1 : M1.IsWhole)
    (M2 : Memref sig .tc .vmem S8x20480 .f32) (h2 : M2.IsWhole)
    (M3 : Memref sig .tc .vmem S8x20480 .f32) (h3 : M3.IsWhole)
    (M4 : Memref sig .tc .vmem S8x20480 .f32) (h4 : M4.IsWhole)
    (M5 : Memref sig .tc .vmem S8x20480 .f32) (h5 : M5.IsWhole)
    (M6 : Memref sig .tc .vmem S8x128 .f32) (h6 : M6.IsWhole)
    (M7 : Memref sig .tc .vmem S8x128 .f32) (h7 : M7.IsWhole)
    (M8 : Memref sig .tc .vmem S8x128 .f32) (h8 : M8.IsWhole)
    (M9 : Memref sig .tc .vmem S8x128 .f32) (h9 : M9.IsWhole)
    (M10 : Memref sig .tc .vmem S8x128 .f32) (h10 : M10.IsWhole)
    (M11 : Memref sig .tc .vmem S8x128 .i32) (h11 : M11.IsWhole)
    (M12 : Memref sig .tc .vmem S8x128 .i32) (h12 : M12.IsWhole)
    (f0 : Bf (F := F) c M0) (f1 : Bf (F := F) c M1) (f2 : Bf (F := F) c M2) (f3 : Bf (F := F) c M3) (f4 : Bf (F := F) c M4) (f5 : Bf (F := F) c M5) :
    M6.view.read (Elt F) (nmsRun c M0 h0 M1 h1 M2 h2 M3 h3 M4 h4 M5 h5 M6 h6 M7 h7 M8 h8 M9 h9 M10 h10 M11 h11 M12 h12 f0 f1 f2 f3 f4 f5).1.1 = (endSt (M0.view.read (Elt F) f0) (M1.view.read (Elt F) f1) (M2.view.read (Elt F) f2) (M3.view.read (Elt F) f3) (M4.view.read (Elt F) f4) (M5.view.read (Elt F) f5)).2.1
      ∧ M7.view.read (Elt F) (nmsRun c M0 h0 M1 h1 M2 h2 M3 h3 M4 h4 M5 h5 M6 h6 M7 h7 M8 h8 M9 h9 M10 h10 M11 h11 M12 h12 f0 f1 f2 f3 f4 f5).1.2.1 = (endSt (M0.view.read (Elt F) f0) (M1.view.read (Elt F) f1) (M2.view.read (Elt F) f2) (M3.view.read (Elt F) f3) (M4.view.read (Elt F) f4) (M5.view.read (Elt F) f5)).2.2.1
      ∧ M8.view.read (Elt F) (nmsRun c M0 h0 M1 h1 M2 h2 M3 h3 M4 h4 M5 h5 M6 h6 M7 h7 M8 h8 M9 h9 M10 h10 M11 h11 M12 h12 f0 f1 f2 f3 f4 f5).1.2.2.1 = (endSt (M0.view.read (Elt F) f0) (M1.view.read (Elt F) f1) (M2.view.read (Elt F) f2) (M3.view.read (Elt F) f3) (M4.view.read (Elt F) f4) (M5.view.read (Elt F) f5)).2.2.2.1
      ∧ M9.view.read (Elt F) (nmsRun c M0 h0 M1 h1 M2 h2 M3 h3 M4 h4 M5 h5 M6 h6 M7 h7 M8 h8 M9 h9 M10 h10 M11 h11 M12 h12 f0 f1 f2 f3 f4 f5).1.2.2.2.1 = (endSt (M0.view.read (Elt F) f0) (M1.view.read (Elt F) f1) (M2.view.read (Elt F) f2) (M3.view.read (Elt F) f3) (M4.view.read (Elt F) f4) (M5.view.read (Elt F) f5)).2.2.2.2.1
      ∧ M10.view.read (Elt F) (nmsRun c M0 h0 M1 h1 M2 h2 M3 h3 M4 h4 M5 h5 M6 h6 M7 h7 M8 h8 M9 h9 M10 h10 M11 h11 M12 h12 f0 f1 f2 f3 f4 f5).1.2.2.2.2.1 = (endSt (M0.view.read (Elt F) f0) (M1.view.read (Elt F) f1) (M2.view.read (Elt F) f2) (M3.view.read (Elt F) f3) (M4.view.read (Elt F) f4) (M5.view.read (Elt F) f5)).2.2.2.2.2.1
      ∧ M11.view.read (Elt F) (nmsRun c M0 h0 M1 h1 M2 h2 M3 h3 M4 h4 M5 h5 M6 h6 M7 h7 M8 h8 M9 h9 M10 h10 M11 h11 M12 h12 f0 f1 f2 f3 f4 f5).1.2.2.2.2.2.1 = (endSt (M0.view.read (Elt F) f0) (M1.view.read (Elt F) f1) (M2.view.read (Elt F) f2) (M3.view.read (Elt F) f3) (M4.view.read (Elt F) f4) (M5.view.read (Elt F) f5)).2.2.2.2.2.2.1
      ∧ M12.view.read (Elt F) (nmsRun c M0 h0 M1 h1 M2 h2 M3 h3 M4 h4 M5 h5 M6 h6 M7 h7 M8 h8 M9 h9 M10 h10 M11 h11 M12 h12 f0 f1 f2 f3 f4 f5).1.2.2.2.2.2.2 = k1_pay1 (endSt (M0.view.read (Elt F) f0) (M1.view.read (Elt F) f1) (M2.view.read (Elt F) f2) (M3.view.read (Elt F) f3) (M4.view.read (Elt F) f4) (M5.view.read (Elt F) f5)).2.2.2.2.2.2.2 := by
  have hld : ∀ {e : EltTy} (M : Memref sig .tc .vmem S8x20480 e) (f : Bf (F := F) c M) (inb : _),
      View.readAt (Elt F) M.view (Rect.unit (s := S8x20480) ![0, 0] S8x20480.size inb).toLoadRect f = M.view.read (Elt F) f := fun M f inb => by
    rw [View.readAt_eq_ld]; exact View.ld_unit_zero (S := S8x20480) hz2 inb _
  unfold nmsRun
  dsimp only
  sl_unfold_words
  refine ⟨?_, ?_, ?_, ?_, ?_, ?_, ?_⟩
  all_goals
    rw [read_whole_store _ _ _ hz2]
    simp only [hld]
    first | done | rfl

/-! ### The bodies over what their buffers read -/

local notation "𝕄" => MT nD τ sig Unit (Elt F) ℕ UU ℕ

/-- Memref `M` owned whole by core `c`, reading `X`. -/
abbrev own (c : Dev nD) {sp : Space} {S : Shape} {e : EltTy} (M : Memref sig .tc sp S e) (X : S.Idx → Elt F e) : sProp 𝕄 :=
  owns (c : Thread nD τ) M fullShare X

/-- A whole memref owned is its buffer held at contents reading so. -/
theorem own_open (c : Dev nD) {sp : Space} {S : Shape} {e : EltTy} (M : Memref sig .tc sp S e) (h : M.IsWhole) (X : S.Idx → Elt F e) :
    own c M X ⊢ (iprop(∃ f : Bf (F := F) c M, ⌜M.view.read (Elt F) f = X⌝ ∗ pt c M f) : sProp 𝕄) := by
  obtain ⟨b, rfl, rfl, rfl, hm⟩ := h; cases hm
  unfold own owns
  simp only [Memref.view_whole, View.set_whole]
  exact .rfl

/-- A whole memref's buffer held at contents reading `X` is the memref owned at `X`. -/
theorem own_close (c : Dev nD) {sp : Space} {S : Shape} {e : EltTy} (M : Memref sig .tc sp S e) (h : M.IsWhole) {f : Bf (F := F) c M} {X : S.Idx → Elt F e}
    (hf : M.view.read (Elt F) f = X) : pt c M f ⊢ (own c M X : sProp 𝕄) := by
  obtain ⟨b, rfl, rfl, rfl, hm⟩ := h; cases hm
  unfold own owns
  simp only [Memref.view_whole, View.set_whole]
  iintro H; iexists f; isplitr; · ipureintro; exact hf
  iexact H

/-- The class-reduction body, from a block `x`: the block kept, its largest scores and their classes left. -/
theorem reduce_wp (c : Dev nD) (M0 : Memref sig .tc .vmem S1x2000x91 .f32) (h0 : M0.IsWhole) (M1 : Memref sig .tc .vmem S1x2000x1 .f32) (h1 : M1.IsWhole)
    (M2 : Memref sig .tc .vmem S1x2000x1 .i32) (h2 : M2.IsWhole) (i : grid0.Coords) (x0 : Vec F S1x2000x91 .f32) (x1 : Vec F S1x2000x1 .f32)
    (x2 : Vec F S1x2000x1 .i32) (E : Set ℕ) (Q : PUnit → sProp 𝕄) :
    iprop(own c M0 x0 ∗ own c M1 x1 ∗ own c M2 x2 ∗ (iprop(own c M0 x0 ∗ own c M1 (k0_pay3 x0) ∗ own c M2 (k0_pay4 x0)) -∗ Q ⟨⟩))
      ⊢ wp frame (wpE (defs₀ (F := F)) Variants.none c none) E (cc0__class_reduce_body i M0 h0 M1 h1 M2 h2) Q := by
  iintro ⟨H0, H1, H2, Hk⟩
  ihave G0 := (own_open c M0 h0 x0) $$ H0
  icases G0 with ⟨%f0, %e0, H0⟩
  ihave G1 := (own_open c M1 h1 x1) $$ H1
  icases G1 with ⟨%f1, %e1, H1⟩
  ihave G2 := (own_open c M2 h2 x2) $$ H2
  icases G2 with ⟨%f2, %e2, H2⟩
  obtain ⟨r1, r2⟩ := reduce_read c M0 h0 M1 h1 M2 h2 i f0
  rw [e0] at r1 r2
  iapply ((reduceRun c M0 h0 M1 h1 M2 h2 i f0).2 f1 f2 E Q)
  isplitl [H0]; · iexact H0
  isplitl [H1]; · iexact H1
  isplitl [H2]; · iexact H2
  iintro ⟨H0, H1, H2⟩
  iapply Hk
  isplitl [H0]; · iapply (own_close c M0 h0 e0); iexact H0
  isplitl [H1]; · iapply (own_close c M1 h1 r1); iexact H1
  iapply (own_close c M2 h2 r2); iexact H2

set_option maxHeartbeats 2000000 in
/-- The suppression body, from scores, classes and coordinates: they kept, the loop's columns and count left. -/
theorem nms_wp (c : Dev nD)
    (M0 : Memref sig .tc .vmem S8x20480 .f32) (h0 : M0.IsWhole)
    (M1 : Memref sig .tc .vmem S8x20480 .i32) (h1 : M1.IsWhole)
    (M2 : Memref sig .tc .vmem S8x20480 .f32) (h2 : M2.IsWhole)
    (M3 : Memref sig .tc .vmem S8x20480 .f32) (h3 : M3.IsWhole)
    (M4 : Memref sig .tc .vmem S8x20480 .f32) (h4 : M4.IsWhole)
    (M5 : Memref sig .tc .vmem S8x20480 .f32) (h5 : M5.IsWhole)
    (M6 : Memref sig .tc .vmem S8x128 .f32) (h6 : M6.IsWhole)
    (M7 : Memref sig .tc .vmem S8x128 .f32) (h7 : M7.IsWhole)
    (M8 : Memref sig .tc .vmem S8x128 .f32) (h8 : M8.IsWhole)
    (M9 : Memref sig .tc .vmem S8x128 .f32) (h9 : M9.IsWhole)
    (M10 : Memref sig .tc .vmem S8x128 .f32) (h10 : M10.IsWhole)
    (M11 : Memref sig .tc .vmem S8x128 .i32) (h11 : M11.IsWhole)
    (M12 : Memref sig .tc .vmem S8x128 .i32) (h12 : M12.IsWhole)
    (x0 : Vec F S8x20480 .f32) (x1 : Vec F S8x20480 .i32) (x2 : Vec F S8x20480 .f32) (x3 : Vec F S8x20480 .f32) (x4 : Vec F S8x20480 .f32) (x5 : Vec F S8x20480 .f32)
    (x6 : Vec F S8x128 .f32) (x7 : Vec F S8x128 .f32) (x8 : Vec F S8x128 .f32) (x9 : Vec F S8x128 .f32) (x10 : Vec F S8x128 .f32) (x11 : Vec F S8x128 .i32) (x12 : Vec F S8x128 .i32) (E : Set ℕ) (Q : PUnit → sProp 𝕄) :
    iprop(own c M0 x0 ∗ own c M1 x1 ∗ own c M2 x2 ∗ own c M3 x3 ∗ own c M4 x4 ∗ own c M5 x5 ∗ own c M6 x6 ∗ own c M7 x7 ∗ own c M8 x8 ∗ own c M9 x9 ∗ own c M10 x10 ∗ own c M11 x11 ∗ own c M12 x12
        ∗ (iprop(own c M0 x0 ∗ own c M1 x1 ∗ own c M2 x2 ∗ own c M3 x3 ∗ own c M4 x4 ∗ own c M5 x5 ∗ own c M6 (endSt x0 x1 x2 x3 x4 x5).2.1 ∗ own c M7 (endSt x0 x1 x2 x3 x4 x5).2.2.1 ∗ own c M8 (endSt x0 x1 x2 x3 x4 x5).2.2.2.1 ∗ own c M9 (endSt x0 x1 x2 x3 x4 x5).2.2.2.2.1 ∗ own c M10 (endSt x0 x1 x2 x3 x4 x5).2.2.2.2.2.1 ∗ own c M11 (endSt x0 x1 x2 x3 x4 x5).2.2.2.2.2.2.1 ∗ own c M12 (k1_pay1 (endSt x0 x1 x2 x3 x4 x5).2.2.2.2.2.2.2)) -∗ Q ⟨⟩))
      ⊢ wp frame (wpE (defs₀ (F := F)) Variants.none c none) E (cc1__nms_body M0 h0 M1 h1 M2 h2 M3 h3 M4 h4 M5 h5 M6 h6 M7 h7 M8 h8 M9 h9 M10 h10 M11 h11 M12 h12) Q := by
  iintro ⟨H0, H1, H2, H3, H4, H5, H6, H7, H8, H9, H10, H11, H12, Hk⟩
  ihave G0 := (own_open c M0 h0 x0) $$ H0
  icases G0 with ⟨%f0, %e0, H0⟩
  ihave G1 := (own_open c M1 h1 x1) $$ H1
  icases G1 with ⟨%f1, %e1, H1⟩
  ihave G2 := (own_open c M2 h2 x2) $$ H2
  icases G2 with ⟨%f2, %e2, H2⟩
  ihave G3 := (own_open c M3 h3 x3) $$ H3
  icases G3 with ⟨%f3, %e3, H3⟩
  ihave G4 := (own_open c M4 h4 x4) $$ H4
  icases G4 with ⟨%f4, %e4, H4⟩
  ihave G5 := (own_open c M5 h5 x5) $$ H5
  icases G5 with ⟨%f5, %e5, H5⟩
  ihave G6 := (own_open c M6 h6 x6) $$ H6
  icases G6 with ⟨%f6, %e6, H6⟩
  ihave G7 := (own_open c M7 h7 x7) $$ H7
  icases G7 with ⟨%f7, %e7, H7⟩
  ihave G8 := (own_open c M8 h8 x8) $$ H8
  icases G8 with ⟨%f8, %e8, H8⟩
  ihave G9 := (own_open c M9 h9 x9) $$ H9
  icases G9 with ⟨%f9, %e9, H9⟩
  ihave G10 := (own_open c M10 h10 x10) $$ H10
  icases G10 with ⟨%f10, %e10, H10⟩
  ihave G11 := (own_open c M11 h11 x11) $$ H11
  icases G11 with ⟨%f11, %e11, H11⟩
  ihave G12 := (own_open c M12 h12 x12) $$ H12
  icases G12 with ⟨%f12, %e12, H12⟩
  obtain ⟨r6, r7, r8, r9, r10, r11, r12⟩ := nms_read c M0 h0 M1 h1 M2 h2 M3 h3 M4 h4 M5 h5 M6 h6 M7 h7 M8 h8 M9 h9 M10 h10 M11 h11 M12 h12 f0 f1 f2 f3 f4 f5
  simp only [e0, e1, e2, e3, e4, e5] at r6 r7 r8 r9 r10 r11 r12
  iapply ((nmsRun c M0 h0 M1 h1 M2 h2 M3 h3 M4 h4 M5 h5 M6 h6 M7 h7 M8 h8 M9 h9 M10 h10 M11 h11 M12 h12 f0 f1 f2 f3 f4 f5).2 f6 f7 f8 f9 f10 f11 f12 E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  iapply Hk
  isplitl [H0]; · iapply (own_close c M0 h0 e0); iexact H0
  isplitl [H1]; · iapply (own_close c M1 h1 e1); iexact H1
  isplitl [H2]; · iapply (own_close c M2 h2 e2); iexact H2
  isplitl [H3]; · iapply (own_close c M3 h3 e3); iexact H3
  isplitl [H4]; · iapply (own_close c M4 h4 e4); iexact H4
  isplitl [H5]; · iapply (own_close c M5 h5 e5); iexact H5
  isplitl [H6]; · iapply (own_close c M6 h6 r6); iexact H6
  isplitl [H7]; · iapply (own_close c M7 h7 r7); iexact H7
  isplitl [H8]; · iapply (own_close c M8 h8 r8); iexact H8
  isplitl [H9]; · iapply (own_close c M9 h9 r9); iexact H9
  isplitl [H10]; · iapply (own_close c M10 h10 r10); iexact H10
  isplitl [H11]; · iapply (own_close c M11 h11 r11); iexact H11
  iapply (own_close c M12 h12 r12); iexact H12

end Cert.KernelIdeal.Nms

end
-- ==== Proof.PI.Run.lean ====
/-
  The run of the program: the class reduction's region, the host's padding and reshaping, the suppression's region,
  the host's slicing of its columns. Each region's proof data say what its windows hold; the run ends with every
  unscoped buffer at the last of the valuations below.
-/
module

public import proofs.«01_k».proof.Proof.PI.Value
public import proofs.«01_k».proof.Proof.Gen.KernelIdeal.Points
public import Idealize.ShloMosaic.Lib.Pipeline.RegionArraysS

@[expose] public section

noncomputable section

namespace Cert.KernelIdeal.Nms

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ UU ℕ

/-! ### The proof data of the two regions -/

section Data
variable (c : Dev nD) (V : Valuation τ sig (Elt F))

/-- The block of class scores the class reduction sees at point `t`. -/
abbrev blk0 (t : Fin cfg0.N) : Vec F S1x2000x91 .f32 := ((cfg0.win 0).blk t).view.read (Elt F) (V (Proc.devRef .tc main_arg1))

/-- The class reduction's region from valuation `V`: the windows' arrays at `V`; each point leaves its block's largest
    scores and their classes. -/
def dat0 : Dat τ (Elt F) Unit ℕ UU ℕ cfg0 c where
  A w := V (Proc.devRef .tc (Pipeline.arrRef spec0 w))
  after w t := match w with
    | ⟨0, _⟩ => blk0 V t
    | ⟨1, _⟩ => k0_pay3 (blk0 V t)
    | ⟨2, _⟩ => k0_pay4 (blk0 V t)
  Φ _ := Pipeline.scopedRest spec0 c
  q _ := fullShare
  owed _ := 0

/-- What the suppression's input windows hold. -/
abbrev blk1 (w : Fin cfg1.W) (t : Fin cfg1.N) :=
  ((cfg1.win w).blk t).view.read (Elt F) (V (Proc.devRef .tc (Pipeline.arrRef spec1 w)))

/-- What the suppression loop carries at its end, over the input windows. -/
abbrev end1 (t : Fin cfg1.N) : St F :=
  endSt (blk1 V 0 t) (blk1 V 1 t) (blk1 V 2 t) (blk1 V 3 t) (blk1 V 4 t) (blk1 V 5 t)

/-- The suppression's region from valuation `V`: the windows' arrays at `V`; its one point leaves the loop's columns. -/
def dat1 : Dat τ (Elt F) Unit ℕ UU ℕ cfg1 c where
  A w := V (Proc.devRef .tc (Pipeline.arrRef spec1 w))
  after w t := match w with
    | ⟨0, _⟩ => blk1 V 0 t
    | ⟨1, _⟩ => blk1 V 1 t
    | ⟨2, _⟩ => blk1 V 2 t
    | ⟨3, _⟩ => blk1 V 3 t
    | ⟨4, _⟩ => blk1 V 4 t
    | ⟨5, _⟩ => blk1 V 5 t
    | ⟨6, _⟩ => (end1 V t).2.1
    | ⟨7, _⟩ => (end1 V t).2.2.1
    | ⟨8, _⟩ => (end1 V t).2.2.2.1
    | ⟨9, _⟩ => (end1 V t).2.2.2.2.1
    | ⟨10, _⟩ => (end1 V t).2.2.2.2.2.1
    | ⟨11, _⟩ => (end1 V t).2.2.2.2.2.2.1
    | ⟨12, _⟩ => k1_pay1 (end1 V t).2.2.2.2.2.2.2
  Φ _ := Pipeline.scopedRest spec1 c
  q _ := fullShare
  owed _ := 0

/-- What the class reduction leaves at point `t`. -/
theorem after0_1 (t : Fin cfg0.N) : (dat0 c V).after 1 t = k0_pay3 (blk0 V t) := by
  dsimp only [dat0]
/-- And its classes. -/
theorem after0_2 (t : Fin cfg0.N) : (dat0 c V).after 2 t = k0_pay4 (blk0 V t) := by
  dsimp only [dat0]

/-- The class reduction's input buffer holds its block when the body runs. -/
theorem before0 (t : Fin cfg0.N) (d) : (dat0 c V).before 0 t d = blk0 V t := by
  unfold Dat.before; rw [if_pos (fetch0_0 t)]; rfl

/-- The suppression's input buffers hold their arrays' blocks when the body runs. -/
theorem before1_0 (t : Fin cfg1.N) (d) : (dat1 c V).before 0 t d = blk1 V 0 t := by
  unfold Dat.before; rw [if_pos (fetch1_0 t)]; rfl
/-- The classes, -/
theorem before1_1 (t : Fin cfg1.N) (d) : (dat1 c V).before 1 t d = blk1 V 1 t := by
  unfold Dat.before; rw [if_pos (fetch1_1 t)]; rfl
/-- the first coordinate, -/
theorem before1_2 (t : Fin cfg1.N) (d) : (dat1 c V).before 2 t d = blk1 V 2 t := by
  unfold Dat.before; rw [if_pos (fetch1_2 t)]; rfl
/-- the second, -/
theorem before1_3 (t : Fin cfg1.N) (d) : (dat1 c V).before 3 t d = blk1 V 3 t := by
  unfold Dat.before; rw [if_pos (fetch1_3 t)]; rfl
/-- the third -/
theorem before1_4 (t : Fin cfg1.N) (d) : (dat1 c V).before 4 t d = blk1 V 4 t := by
  unfold Dat.before; rw [if_pos (fetch1_4 t)]; rfl
/-- and the fourth. -/
theorem before1_5 (t : Fin cfg1.N) (d) : (dat1 c V).before 5 t d = blk1 V 5 t := by
  unfold Dat.before; rw [if_pos (fetch1_5 t)]; rfl

set_option maxRecDepth 20000 in
/-- The class reduction's body meets its proof data at every point. -/
theorem body0 : BodyObligation (dat0 c V) (defs₀ (F := F)) Variants.none () Set.univ := fun t => by
  rw [bigSep_W0, bigSep_W0]
  dsimp only
  rw [show (dat0 c V).Φ t.succ = (dat0 c V).Φ t.castSucc from rfl, show (dat0 c V).owesAt () t.succ = (dat0 c V).owesAt () t.castSucc from rfl]
  iintro ⟨HΦ, Howes, ⟨%d0, H0⟩, ⟨%d1, H1⟩, ⟨%d2, H2⟩⟩
  rw [before0]
  iapply (reduce_wp c (st0_0 t) (hstage0_0 ((cfg0.slots t 0).cast nbuf0_0)) (st0_1 t) (hstage0_1 ((cfg0.slots t 1).cast nbuf0_1))
    (st0_2 t) (hstage0_2 ((cfg0.slots t 2).cast nbuf0_2)) (grid0.coords t) (blk0 V t) _ _ Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  rw [after0_1, after0_2]
  isplitl [H1]; · iexact H1
  iexact H2

set_option maxRecDepth 20000 in
set_option maxHeartbeats 2000000 in
/-- The suppression's body meets its proof data at its one point. -/
theorem body1 : BodyObligation (dat1 c V) (defs₀ (F := F)) Variants.none () Set.univ := fun t => by
  rw [bigSep_W1, bigSep_W1]
  dsimp only
  rw [show (dat1 c V).Φ t.succ = (dat1 c V).Φ t.castSucc from rfl, show (dat1 c V).owesAt () t.succ = (dat1 c V).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before1_0, before1_1, before1_2, before1_3, before1_4, before1_5]
  iapply (nms_wp c (st1_0 t) (hstage1_0 0) (st1_1 t) (hstage1_1 0) (st1_2 t) (hstage1_2 0) (st1_3 t) (hstage1_3 0) (st1_4 t) (hstage1_4 0) (st1_5 t) (hstage1_5 0) (st1_6 t) (hstage1_6 0) (st1_7 t) (hstage1_7 0) (st1_8 t) (hstage1_8 0) (st1_9 t) (hstage1_9 0) (st1_10 t) (hstage1_10 0) (st1_11 t) (hstage1_11 0) (st1_12 t) (hstage1_12 0)
    (blk1 V 0 t) (blk1 V 1 t) (blk1 V 2 t) (blk1 V 3 t) (blk1 V 4 t) (blk1 V 5 t) _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Data

/-! ### The buffers' contents between items -/

section Run
variable (m : (ℓ : Loc nD τ sig) → Buf (Elt F) ℓ) (ρ : Dev nD → PrngReg)

/-- Core `c`'s unscoped buffers at launch; -/
abbrev W0 (c : Dev nD) : Valuation τ sig (Elt F) := fun b => m (c, b)
/-- after the class reduction; -/
def W1 (c : Dev nD) : Valuation τ sig (Elt F) := Pipeline.afterRegion (dat0 c (W0 m c)) (W0 m c)
/-- after the host's operations between the regions; -/
def W2 (c : Dev nD) : Valuation τ sig (Elt F) :=
  StableHlo.after hostOps1_6 (StableHlo.after hostOps1_5 (StableHlo.after hostOps1_4 (StableHlo.after hostOps1_3 (StableHlo.after hostOps1_2
    (StableHlo.after hostOps1_1 (StableHlo.after hostOps1 (W1 m c)))))))
/-- after the suppression; -/
def W3 (c : Dev nD) : Valuation τ sig (Elt F) := Pipeline.afterRegion (dat1 c (W2 m c)) (W2 m c)
/-- at the end. -/
def W4 (c : Dev nD) : Valuation τ sig (Elt F) := StableHlo.after hostOps2 (W3 m c)

/-- The two regions' proof data, as the launch enters them. -/
def pdats : (p : Fin 2) → (c : Dev nD) → Dat τ (Elt F) Unit ℕ UU ℕ (Pipeline.pin (pcfgs (F := F)) adm p) c
  | ⟨0, _⟩ => fun c => dat0 c (W0 m c)
  | ⟨1, _⟩ => fun c => dat1 c (W2 m c)

/-- The waits of a TensorCore's own staging are at the one level; -/
abbrev L : GSem nD τ sig → Finset Unit := fun g => if g.1.2 = .tc then {()} else ∅
/-- the one level; -/
abbrev lv : GSem nD τ sig → Unit → ℕ := fun _ _ => 0

/-- and with no other obligation about, every region may wait. -/
theorem cut (p : Fin 2) : Pipeline.LevelCut (pcfgs (F := F)) adm () L lv p (fun _ => 0) (fun _ => 0) where
  hι c w s := by show () ∈ (if _ then _ else _); rw [if_pos rfl]; exact Finset.mem_singleton.mpr rfl
  hιb _ _ _ := Nat.le_refl _
  hD _ _ _ h := absurd h (by show ¬ (0 < 0); exact Nat.lt_irrefl 0)

/-- What rides beside the buffers: that the core owes nothing. -/
abbrev rest (c : Dev nD) : sProp 𝕄 := iprop((∃ Wd, owes (c : Thread nD τ) (0 : CellTallies nD τ sig Unit) Wd) ∗ emp ∗ emp)

/-- The class reduction's segment: every unscoped buffer at `W0`, then at `W1`. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig) (fun _ => BI.emp) (fun _ => BI.emp)
    (Pipeline.LaunchFacts.toP launch0) rfl (fun c => (body0 c (W0 m c)).loose) (fun _ _ => rfl) (fun _ => rfl)
    (fun c w => by unfold Dat.share; split <;> rfl)
    (fun c => by rw [show (pdats m 0 c).Φ 0 = Pipeline.scopedRest spec0 c from rfl]; iintro ⟨H, -⟩; iexact H)
    (fun c => by rw [show (pdats m 0 c).Φ (Fin.last _) = Pipeline.scopedRest spec0 c from rfl]; iintro H; isplitl; · iexact H
                 iempintro) (fun _ => 0) (cut 0) (fun _ => BI.emp) (W0 m) (fun c w => rfl)

/-- The suppression's segment: every unscoped buffer at `W2`, then at `W3`. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig) (fun _ => BI.emp) (fun _ => BI.emp)
    (Pipeline.LaunchFacts.toP launch1) rfl (fun c => (body1 c (W2 m c)).loose) (fun _ _ => rfl) (fun _ => rfl)
    (fun c w => by unfold Dat.share; split <;> rfl)
    (fun c => by rw [show (pdats m 1 c).Φ 0 = Pipeline.scopedRest spec1 c from rfl]; iintro ⟨H, -⟩; iexact H)
    (fun c => by rw [show (pdats m 1 c).Φ (Fin.last _) = Pipeline.scopedRest spec1 c from rfl]; iintro H; isplitl; · iexact H
                 iempintro) (fun _ => 0) (cut 1) (fun _ => BI.emp) (W2 m) (fun c w => rfl)

/-- A host stretch from valuation `V`. -/
abbrev host (ops : List (HloOp τ sig (Elt F))) (hsub : ops.Forall fun op => op.bufs ⊆ StableHlo.tcRefs τ sig)
    (hfresh : ops.Forall fun op => op.fresh = ∅) (V : Dev nD → Valuation τ sig (Elt F)) :
    HostSeg (Ix := Unit) (Name := ℕ) (U := UU) (Lvl := ℕ) (pcfgs (F := F)) defs₀ Variants.none L lv :=
  HostSeg.ofOps _ _ _ _ _ (Pipeline.ucRefs τ sig) ops (fun op h => Pipeline.sub_ucRefs op ((List.forall_iff_forall_mem.mp hsub) op h))
    (fun op h => (List.forall_iff_forall_mem.mp hfresh) op h) V rest

/-- The program's items on core `c`. -/
abbrev items (c : Dev nD) : List (Seg (pcfgs (F := F)) adm (pdats m) () defs₀ Variants.none L lv) :=
  [.region (reg0 m),
    .host (host hostOps1 hostOps1_sub hostOps1_fresh (W1 m)),
    .host (host hostOps1_1 hostOps1_1_sub hostOps1_1_fresh (fun c => StableHlo.after hostOps1 (W1 m c))),
    .host (host hostOps1_2 hostOps1_2_sub hostOps1_2_fresh (fun c => StableHlo.after hostOps1_1 (StableHlo.after hostOps1 (W1 m c)))),
    .host (host hostOps1_3 hostOps1_3_sub hostOps1_3_fresh (fun c => StableHlo.after hostOps1_2 (StableHlo.after hostOps1_1 (StableHlo.after hostOps1 (W1 m c))))),
    .host (host hostOps1_4 hostOps1_4_sub hostOps1_4_fresh (fun c => StableHlo.after hostOps1_3 (StableHlo.after hostOps1_2
      (StableHlo.after hostOps1_1 (StableHlo.after hostOps1 (W1 m c)))))),
    .host (host hostOps1_5 hostOps1_5_sub hostOps1_5_fresh (fun c => StableHlo.after hostOps1_4 (StableHlo.after hostOps1_3 (StableHlo.after hostOps1_2
      (StableHlo.after hostOps1_1 (StableHlo.after hostOps1 (W1 m c))))))),
    .host (host hostOps1_6 hostOps1_6_sub hostOps1_6_fresh (fun c => StableHlo.after hostOps1_5 (StableHlo.after hostOps1_4 (StableHlo.after hostOps1_3
      (StableHlo.after hostOps1_2 (StableHlo.after hostOps1_1 (StableHlo.after hostOps1 (W1 m c)))))))),
    .region (reg1 m),
    .host (host hostOps2 hostOps2_sub hostOps2_fresh (W3 m))]

/-- The launch element: every staging cell at its first round, with the tokens of the pipelines' transfers. -/
def u₀ : UU := initOf (Pipeline.cells cfgs cellOf_inj) (Pipeline.launchToks cfgs cellOf_inj)

/-- The pipelines' algebra inside the run's resources. -/
def EP : Emb UU (MT nD τ sig Unit (Elt F) ℕ UU ℕ) :=
  (Emb.refl _).trans (uEmb (nD := nD) (sig := sig) (Ix := Unit) (Val := Elt F) (Name := ℕ) (U := UU) (Lvl := ℕ)).toEmb

instance EP_lands : (EP : Emb UU 𝕄).LandsIn (upEmb : UEmb _ 𝕄) := by unfold EP; infer_instance

/-- A buffer no region stages. -/
theorem mem_uc (r : Ref sig .tc) (h : ¬ (Proc.devRef (τ := τ) .tc r).isScoped) : Proc.devRef .tc r ∈ Pipeline.ucRefs τ sig :=
  Finset.mem_filter.mpr ⟨StableHlo.devRef_mem_tcRefs r, h⟩

/-- The arrays of the class reduction's windows are unscoped buffers, -/
theorem arrs0_sub : Pipeline.arrRefs (τ := τ) spec0 ⊆ Pipeline.ucRefs τ sig := Pipeline.arrRefs_sub_ucRefs spec0 (by decide)
/-- and so are those of the suppression's. -/
theorem arrs1_sub : Pipeline.arrRefs (τ := τ) spec1 ⊆ Pipeline.ucRefs τ sig := Pipeline.arrRefs_sub_ucRefs spec1 (by decide)

/-- The class reduction enters with every unscoped buffer at `W0`, -/
theorem reg0_pre (c : Dev nD) : iprop(StableHlo.held (c : Thread nD τ) (Pipeline.ucRefs τ sig) (W0 m c) ∗ rest c) ⊢ (reg0 m).pre c :=
  RegionSeg.ofHeldIn_pre (D := fun _ => 0) (X := fun _ => BI.emp) (Y := fun _ => BI.emp) (R := fun _ => BI.emp) (W := W0 m) (p := 0)
    (arrs0_sub) c
/-- leaves with every one at `W1`; -/
theorem reg0_post (c : Dev nD) : (reg0 m).post c ⊢ iprop(StableHlo.held (c : Thread nD τ) (Pipeline.ucRefs τ sig) (W1 m c) ∗ rest c) :=
  RegionSeg.ofHeldIn_post (D := fun _ => 0) (X := fun _ => BI.emp) (Y := fun _ => BI.emp) (R := fun _ => BI.emp) (W := W0 m) (p := 0)
    (arrs0_sub) c
set_option maxHeartbeats 4000000 in
/-- the suppression enters at `W2` -/
theorem reg1_pre (c : Dev nD) : iprop(StableHlo.held (c : Thread nD τ) (Pipeline.ucRefs τ sig) (W2 m c) ∗ rest c) ⊢ (reg1 m).pre c :=
  RegionSeg.ofHeldIn_pre (D := fun _ => 0) (X := fun _ => BI.emp) (Y := fun _ => BI.emp) (R := fun _ => BI.emp) (W := W2 m) (p := 1)
    (arrs1_sub) c
set_option maxHeartbeats 4000000 in
/-- and leaves at `W3`. -/
theorem reg1_post (c : Dev nD) : (reg1 m).post c ⊢ iprop(StableHlo.held (c : Thread nD τ) (Pipeline.ucRefs τ sig) (W3 m c) ∗ rest c) :=
  RegionSeg.ofHeldIn_post (D := fun _ => 0) (X := fun _ => BI.emp) (Y := fun _ => BI.emp) (R := fun _ => BI.emp) (W := W2 m) (p := 1)
    (arrs1_sub) c

set_option backward.isDefEq.respectTransparency.types false in
/-- Every weakly fair execution ends, with every unscoped buffer at `W4` and every counter at zero. -/
theorem run_all : θ_run defs (onTc (τ := τ) (main (F := F))) ⟨m, fun _ => 0, ρ⟩ (fun r =>
    (∀ (c : Dev nD), ∀ b ∈ Pipeline.ucRefs τ sig, r.2.mem ((c.tc : Thread nD τ).1, b) = W4 m c b) ∧ r.2.sem = fun _ => 0) := by
  refine Pipeline.θ_run_regions_kit_dev_sems (pcfgs (F := F)) adm (pdats m) () cellOf_inj EP defs₀ Variants.none L lv m ρ main
    (items m)
    (fun c Q => by
      rewrite [main_chain c, Seg.run_eq_chain,
        show (items m c).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (fun _ => 0)
    (fun g h => if_neg h) (fun _ => BI.emp) u₀ ?hu
    (T₀ := fun c => iprop(StableHlo.held (c : Thread nD τ) (Pipeline.ucRefs τ sig) (W0 m c) ∗ rest c))
    (Tₙ := fun c => StableHlo.held (c : Thread nD τ) (Pipeline.ucRefs τ sig) (W4 m c))
    (hch := fun c => ⟨reg0_pre m c, reg0_post m c, .rfl, .rfl, .rfl, .rfl, .rfl, .rfl,
      reg1_pre m c, reg1_post m c, ?he⟩)
    (hinit := ?hinit) (QY := fun c s => ∀ b ∈ Pipeline.ucRefs τ sig, s.mem ((c.tc : Thread nD τ).1, b) = W4 m c b)
    (hfin := fun c s' => ?hfin) (hQ := fun _ h hz => ⟨h, funext fun g => hz g (.inr (regions_no_unscoped g.2))⟩)
  case hu =>
    rw [show (ownU u₀ : sProp 𝕄) = BI.own (EP (initOf (Pipeline.cells cfgs cellOf_inj) (Pipeline.launchToks cfgs cellOf_inj))) from rfl]
    iintro H
    imodintro
    isplitl [H]; · iexact H
    iapply (show (BI.emp : sProp 𝕄) ⊢ bigSep Finset.univ (fun _ : Dev nD => (BI.emp : sProp 𝕄)) from by rw [BI.bigSep_emp_const])
    iempintro
  case he =>
    show iprop(StableHlo.held (c : Thread nD τ) (Pipeline.ucRefs τ sig) (W4 m c) ∗ rest c) ⊢ _
    iintro ⟨H, HO, -⟩
    isplitl [H]; · iexact H
    iexact HO
  case hinit =>
    refine Pipeline.initEach L lv fun c => ?_
    rw [show unscopedBufs c (fun b => m ((c : Thread nD τ).loc b)) = StableHlo.held (c : Thread nD τ) (Pipeline.ucRefs τ sig) (W0 m c) from
      Pipeline.unscopedBufs_held c (W0 m c)]
    iintro ⟨⟨Hh, -, HO, -⟩, -⟩
    imodintro
    isplitl [Hh]; · iexact Hh
    isplitl [HO]; · iexists ∅; iexact HO
    isplitl <;> iempintro
  case hfin =>
    unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro; exact h
    · iexact HSI

/-- A buffer the host writes nowhere between the regions is the same before the suppression as after the class reduction. -/
theorem W2_of (c : Dev nD) (r : Ref sig .tc)
    (h : r ∉ hostOps1_W ++ hostOps1_1_W ++ hostOps1_2_W ++ hostOps1_3_W ++ hostOps1_4_W ++ hostOps1_5_W ++ hostOps1_6_W) :
    W2 m c (Proc.devRef .tc r) = W1 m c (Proc.devRef .tc r) := by
  simp only [List.mem_append, not_or] at h
  obtain ⟨⟨⟨⟨⟨⟨h0, h1⟩, h2⟩, h3⟩, h4⟩, h5⟩, h6⟩ := h
  unfold W2
  rw [StableHlo.after_of_writes_sub hostOps1_6 _ hostOps1_6_writes h6, StableHlo.after_of_writes_sub hostOps1_5 _ hostOps1_5_writes h5,
    StableHlo.after_of_writes_sub hostOps1_4 _ hostOps1_4_writes h4, StableHlo.after_of_writes_sub hostOps1_3 _ hostOps1_3_writes h3,
    StableHlo.after_of_writes_sub hostOps1_2 _ hostOps1_2_writes h2, StableHlo.after_of_writes_sub hostOps1_1 _ hostOps1_1_writes h1,
    StableHlo.after_of_writes_sub hostOps1 _ hostOps1_writes h0]

/-- The class reduction keeps what it does not write. -/
theorem W1_of (c : Dev nD) (r : Ref sig .tc) (h : ∀ w, Pipeline.arrRef spec0 w = r → (cfg0.win w).isOut = false) :
    W1 m c (Proc.devRef .tc r) = m ((c.tc : Thread nD τ).loc r) :=
  Pipeline.afterRegion_keeps (dat0 c (W0 m c)) (W0 m c) launch0.win.arr_inj (fun _ => rfl) r h

/-- The suppression keeps what it does not write. -/
theorem W3_of (c : Dev nD) (r : Ref sig .tc) (h : ∀ w, Pipeline.arrRef spec1 w = r → (cfg1.win w).isOut = false) :
    W3 m c (Proc.devRef .tc r) = W2 m c (Proc.devRef .tc r) :=
  Pipeline.afterRegion_keeps (dat1 c (W2 m c)) (W2 m c) launch1.win.arr_inj (fun _ => rfl) r h

/-- The arguments end as launched. -/
theorem W4_arg0 (c : Dev nD) : W4 m c (Proc.devRef .tc main_arg0) = m ((c.tc : Thread nD τ).loc main_arg0) :=
  (StableHlo.after_of_writes_sub hostOps2 _ hostOps2_writes (by decide)).trans <| (W3_of m c main_arg0 (by decide)).trans <|
    (W2_of m c main_arg0 (by decide)).trans (W1_of m c main_arg0 (by decide))
/-- And the second. -/
theorem W4_arg1 (c : Dev nD) : W4 m c (Proc.devRef .tc main_arg1) = m ((c.tc : Thread nD τ).loc main_arg1) :=
  (StableHlo.after_of_writes_sub hostOps2 _ hostOps2_writes (by decide)).trans <| (W3_of m c main_arg1 (by decide)).trans <|
    (W2_of m c main_arg1 (by decide)).trans (W1_of m c main_arg1 (by decide))

/-- Every weakly fair execution ends, the four results at `W4`, the arguments as launched, every counter at zero. -/
theorem run : θ_run defs (onTc (τ := τ) (main (F := F))) ⟨m, fun _ => 0, ρ⟩ (fun r =>
    (∀ c : Dev nD, r.2.mem ((c.tc : Thread nD τ).loc main_v16) = W4 m c (Proc.devRef .tc main_v16)
      ∧ r.2.mem ((c.tc : Thread nD τ).loc main_v25) = W4 m c (Proc.devRef .tc main_v25)
      ∧ r.2.mem ((c.tc : Thread nD τ).loc main_v26) = W4 m c (Proc.devRef .tc main_v26)
      ∧ r.2.mem ((c.tc : Thread nD τ).loc main_v28) = W4 m c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run _ _ _).mono (fun r h => ⟨fun c => ⟨h.1 c _ (mem_uc main_v16 (by decide)), h.1 c _ (mem_uc main_v25 (by decide)), h.1 c _ (mem_uc main_v26 (by decide)),
    h.1 c _ (mem_uc main_v28 (by decide)), (h.1 c _ (mem_uc main_arg0 (by decide))).trans (W4_arg0 m c),
    (h.1 c _ (mem_uc main_arg1 (by decide))).trans (W4_arg1 m c)⟩, h.2⟩) (run_all m ρ)

end Run

end Cert.KernelIdeal.Nms

end
-- ==== Proof.RefOps.lean ====
/- The reference program as lists of host operations: the stretches before its loop, one trip of the loop, and the
   stretches after it; the program and the loop's body are the chains of these lists.  A stretch is the operations of
   `@main` between two calls, or those of one called function. -/
module

public import proofs.«01_k».proof.Proof.Gen.ReferenceIdeal
public import Idealize.ShloMosaic.Lib.Pipeline.Regions
public import Idealize.ShloMosaic.Lib.StableHlo.RunLoop

@[expose] public section

set_option maxRecDepth 4000

noncomputable section

namespace Cert.RefRun

open Cert.ReferenceIdeal Cert.ReferenceIdeal.Gen
open Idealize.ShloMosaic Idealize.ShloMosaic.TcCoe
open Idealize.SL.Sem
open Idealize.ShloMosaic.StableHlo

variable {F : FTy → Type} [FloatOps F]

/-- The largest score of every box: its class score. -/
abbrev preOps0 : List (HloOp τ sig (Elt F)) :=
  [ nullary main_cst (constant S_ .f32 0xFF800000#32),
    binary main_arg1 main_cst main_v0 ((fun x v => Host.reduce FloatOps.maximumf x v reducesTo_S8x20000x91_S8x20000_d2 h_S_) : (⟨S8x20000x91, .f32⟩ : BufTy).Contents (Elt F) → (⟨S_, .f32⟩ : BufTy).Contents (Elt F) → (⟨S8x20000, .f32⟩ : BufTy).Contents (Elt F)) ]

/-- The class of every box: the first index of its largest score. -/
abbrev preOps1 : List (HloOp τ sig (Elt F)) :=
  [ TRef.nullary (.of main_call0_v0 : TRef sig ⟨S8x20000x91, .i32⟩) (iotaInDim S8x20000x91 32 2),
    TRef.nullary (.of main_call0_cst : TRef sig ⟨S_, .f32⟩) (constant S_ .f32 0xFF800000#32),
    TRef.nullary (.of main_call0_c : TRef sig ⟨S_, .i32⟩) (constantI S_ 32 0#32),
    TRef.quaternary (.of main_arg1 : TRef sig ⟨S8x20000x91, .f32⟩) (.of main_call0_v0 : TRef sig ⟨S8x20000x91, .i32⟩) (.of main_call0_cst : TRef sig ⟨S_, .f32⟩) (.of main_call0_c : TRef sig ⟨S_, .i32⟩) (.of main_call0_v1_0 : TRef sig ⟨S8x20000, .f32⟩) (fun x y u v j => (Host.argReduce reducer_argmax_f32_i32 x y u v reducesTo_S8x20000x91_S8x20000_d2 h_S_ j).1),
    TRef.quaternary (.of main_arg1 : TRef sig ⟨S8x20000x91, .f32⟩) (.of main_call0_v0 : TRef sig ⟨S8x20000x91, .i32⟩) (.of main_call0_cst : TRef sig ⟨S_, .f32⟩) (.of main_call0_c : TRef sig ⟨S_, .i32⟩) (.of main_v1 : TRef sig ⟨S8x20000, .i32⟩) (fun x y u v j => (Host.argReduce reducer_argmax_f32_i32 x y u v reducesTo_S8x20000x91_S8x20000_d2 h_S_ j).2) ]

/-- The comparison of the class scores with the threshold. -/
abbrev preOps2 : List (HloOp τ sig (Elt F)) :=
  [ nullary main_cst_0 (constant S_ .f32 0x3D4CCCCD#32),
    unary main_cst_0 main_v2 (broadcastInDim S8x20000 ![] bcast_S_S8x20000 : (⟨S_, .f32⟩ : BufTy).Contents (Elt F) → (⟨S8x20000, .f32⟩ : BufTy).Contents (Elt F)),
    binary main_v0 main_v2 main_v3 (cmpf .oge : (⟨S8x20000, .f32⟩ : BufTy).Contents (Elt F) → (⟨S8x20000, .f32⟩ : BufTy).Contents (Elt F) → (⟨S8x20000, .i1⟩ : BufTy).Contents (Elt F)),
    nullary main_cst_1 (constant S_ .f32 0xCE6E6B28#32) ]

/-- A score below the threshold becomes the suppressed value. -/
abbrev preOps3 : List (HloOp τ sig (Elt F)) :=
  [ TRef.unary (.of main_cst_1 : TRef sig ⟨S_, .f32⟩) (.of main_call1_v0 : TRef sig ⟨S_, .f32⟩) id,
    TRef.unary (.of main_call1_v0 : TRef sig ⟨S_, .f32⟩) (.of main_call1_v1 : TRef sig ⟨S20000, .f32⟩) (broadcastInDim S20000 ![] bcast_S_S20000),
    TRef.unary (.of main_call1_v1 : TRef sig ⟨S20000, .f32⟩) (.of main_call1_v2 : TRef sig ⟨S8x20000, .f32⟩) (broadcastInDim S8x20000 ![1] bcast_S20000_S8x20000_1),
    TRef.ternary (.of main_v3 : TRef sig ⟨S8x20000, .i1⟩) (.of main_v0 : TRef sig ⟨S8x20000, .f32⟩) (.of main_call1_v2 : TRef sig ⟨S8x20000, .f32⟩) (.of main_v4 : TRef sig ⟨S8x20000, .f32⟩) select ]

/-- The initial picks, and the carried buffers at the loop's entry. -/
abbrev preOps4 : List (HloOp τ sig (Elt F)) :=
  [ nullary main_c (constantI S_ 32 0#32),
    unary main_c main_v5 (broadcastInDim S100x8 ![] bcast_S_S100x8 : (⟨S_, .i32⟩ : BufTy).Contents (Elt F) → (⟨S100x8, .i32⟩ : BufTy).Contents (Elt F)),
    nullary main_cst_2 (constant S_ .f32 0x00000000#32),
    unary main_cst_2 main_v6 (broadcastInDim S100x8 ![] bcast_S_S100x8 : (⟨S_, .f32⟩ : BufTy).Contents (Elt F) → (⟨S100x8, .f32⟩ : BufTy).Contents (Elt F)),
    nullary main_c_3 (constantI S_ 1 0#1),
    unary main_c_3 main_v7 (broadcastInDim S100x8 ![] bcast_S_S100x8 : (⟨S_, .i1⟩ : BufTy).Contents (Elt F) → (⟨S100x8, .i1⟩ : BufTy).Contents (Elt F)),
    nullary main_c_4 (constantI S_ 32 0#32),
    unary main_arg0 main_v8_0 id,
    unary main_c_4 main_v8_1 id,
    unary main_v4 main_v8_2 id,
    unary main_v5 main_v8_3 id,
    unary main_v6 main_v8_4 id,
    unary main_v7 main_v8_5 id ]

/-- The operations after the loop: the counts, and the places that they fill; -/
abbrev postOps0 : List (HloOp τ sig (Elt F)) :=
  [ unary main_v8_5 main_v9 ((extui 32 · natLt_1_32) : (⟨S100x8, .i1⟩ : BufTy).Contents (Elt F) → (⟨S100x8, .i32⟩ : BufTy).Contents (Elt F)),
    nullary main_c_5 (constantI S_ 32 0#32),
    binary main_v9 main_c_5 main_v10 ((fun x v => Host.reduce IntOp.addi x v reducesTo_S100x8_S8_d0 h_S_) : (⟨S100x8, .i32⟩ : BufTy).Contents (Elt F) → (⟨S_, .i32⟩ : BufTy).Contents (Elt F) → (⟨S8, .i32⟩ : BufTy).Contents (Elt F)),
    nullary main_v11 (iotaInDim S100 32 0),
    unary main_v11 main_v12 (broadcastInDim S1x100 ![1] bcast_S100_S1x100_1 : (⟨S100, .i32⟩ : BufTy).Contents (Elt F) → (⟨S1x100, .i32⟩ : BufTy).Contents (Elt F)),
    unary main_v10 main_v13 (broadcastInDim S8x1 ![0] bcast_S8_S8x1_0 : (⟨S8, .i32⟩ : BufTy).Contents (Elt F) → (⟨S8x1, .i32⟩ : BufTy).Contents (Elt F)),
    unary main_v12 main_v14 (broadcastInDim S8x100 ![0, 1] bcast_S1x100_S8x100_0_1 : (⟨S1x100, .i32⟩ : BufTy).Contents (Elt F) → (⟨S8x100, .i32⟩ : BufTy).Contents (Elt F)),
    unary main_v13 main_v15 (broadcastInDim S8x100 ![0, 1] bcast_S8x1_S8x100_0_1 : (⟨S8x1, .i32⟩ : BufTy).Contents (Elt F) → (⟨S8x100, .i32⟩ : BufTy).Contents (Elt F)),
    binary main_v14 main_v15 main_v16 (cmpi .slt : (⟨S8x100, .i32⟩ : BufTy).Contents (Elt F) → (⟨S8x100, .i32⟩ : BufTy).Contents (Elt F) → (⟨S8x100, .i1⟩ : BufTy).Contents (Elt F)),
    unary main_v16 main_v17 (broadcastInDim S8x100x1 ![0, 1] bcast_S8x100_S8x100x1_0_1 : (⟨S8x100, .i1⟩ : BufTy).Contents (Elt F) → (⟨S8x100x1, .i1⟩ : BufTy).Contents (Elt F)) ]

/-- the boxes taken at the picks; -/
abbrev postOps1 : List (HloOp τ sig (Elt F)) :=
  [ TRef.nullary (.of main_call8_c : TRef sig ⟨S_, .i32⟩) (constantI S_ 32 0#32),
    TRef.unary (.of main_call8_c : TRef sig ⟨S_, .i32⟩) (.of main_call8_v0 : TRef sig ⟨S100x8, .i32⟩) (broadcastInDim S100x8 ![] bcast_S_S100x8),
    TRef.binary (.of main_v8_3 : TRef sig ⟨S100x8, .i32⟩) (.of main_call8_v0 : TRef sig ⟨S100x8, .i32⟩) (.of main_call8_v1 : TRef sig ⟨S100x8, .i1⟩) (cmpi .slt),
    TRef.nullary (.of main_call8_c_0 : TRef sig ⟨S_, .i32⟩) (constantI S_ 32 20000#32),
    TRef.unary (.of main_call8_c_0 : TRef sig ⟨S_, .i32⟩) (.of main_call8_v2 : TRef sig ⟨S100x8, .i32⟩) (broadcastInDim S100x8 ![] bcast_S_S100x8),
    TRef.binary (.of main_v8_3 : TRef sig ⟨S100x8, .i32⟩) (.of main_call8_v2 : TRef sig ⟨S100x8, .i32⟩) (.of main_call8_v3 : TRef sig ⟨S100x8, .i32⟩) addi,
    TRef.ternary (.of main_call8_v1 : TRef sig ⟨S100x8, .i1⟩) (.of main_call8_v3 : TRef sig ⟨S100x8, .i32⟩) (.of main_v8_3 : TRef sig ⟨S100x8, .i32⟩) (.of main_call8_v4 : TRef sig ⟨S100x8, .i32⟩) select,
    TRef.unary main_call8_call0.v0 (.of main_call8_v5 : TRef sig ⟨S8x100, .i32⟩) (transpose S8x100 [1, 0] · transposes_S100x8_S8x100_1_0),
    TRef.unary (.of main_call8_v5 : TRef sig ⟨S8x100, .i32⟩) (.of main_call8_v6 : TRef sig ⟨S8x100x1, .i32⟩) (broadcastInDim S8x100x1 ![0, 1] bcast_S8x100_S8x100x1_0_1),
    TRef.nullary (.of main_call8_c_1 : TRef sig ⟨S1, .i32⟩) (constantI S1 32 19999#32),
    TRef.nullary (.of main_call8_c_2 : TRef sig ⟨S_, .i32⟩) (constantI S_ 32 0#32),
    TRef.unary (.of main_call8_c_2 : TRef sig ⟨S_, .i32⟩) (.of main_call8_v7 : TRef sig ⟨S8x100x1, .i32⟩) (broadcastInDim S8x100x1 ![] bcast_S_S8x100x1),
    TRef.binary (.of main_call8_v6 : TRef sig ⟨S8x100x1, .i32⟩) (.of main_call8_v7 : TRef sig ⟨S8x100x1, .i32⟩) (.of main_call8_v8 : TRef sig ⟨S8x100x1, .i1⟩) (cmpi .sge),
    TRef.unary (.of main_call8_c_1 : TRef sig ⟨S1, .i32⟩) (.of main_call8_v9 : TRef sig ⟨S1x1x1, .i32⟩) (broadcastInDim S1x1x1 ![2] bcast_S1_S1x1x1_2),
    TRef.unary (.of main_call8_v9 : TRef sig ⟨S1x1x1, .i32⟩) (.of main_call8_v10 : TRef sig ⟨S8x100x1, .i32⟩) (broadcastInDim S8x100x1 ![0, 1, 2] bcast_S1x1x1_S8x100x1_0_1_2),
    TRef.binary (.of main_call8_v6 : TRef sig ⟨S8x100x1, .i32⟩) (.of main_call8_v10 : TRef sig ⟨S8x100x1, .i32⟩) (.of main_call8_v11 : TRef sig ⟨S8x100x1, .i1⟩) (cmpi .sle),
    TRef.binary (.of main_call8_v8 : TRef sig ⟨S8x100x1, .i1⟩) (.of main_call8_v11 : TRef sig ⟨S8x100x1, .i1⟩) (.of main_call8_v12 : TRef sig ⟨S8x100x1, .i1⟩) andi,
    TRef.nullary (.of main_call8_c_3 : TRef sig ⟨S_, .i1⟩) (constantI S_ 1 1#1),
    TRef.binary (.of main_call8_v12 : TRef sig ⟨S8x100x1, .i1⟩) (.of main_call8_c_3 : TRef sig ⟨S_, .i1⟩) (.of main_call8_v13 : TRef sig ⟨S8x100, .i1⟩) (fun x v => Host.reduce IntOp.andi x v reducesTo_S8x100x1_S8x100_d2 h_S_),
    TRef.binary (.of main_arg0 : TRef sig ⟨S8x20000x4, .f32⟩) (.of main_call8_v6 : TRef sig ⟨S8x100x1, .i32⟩) (.of main_call8_v14 : TRef sig ⟨S8x100x4, .f32⟩) (fun x i => Host.gather gather_S8x20000x4_S8x100x1_S8x100x4_2_1_0_0_1_2_114 x i),
    TRef.unary (.of main_call8_v13 : TRef sig ⟨S8x100, .i1⟩) (.of main_call8_v15 : TRef sig ⟨S8x100x4, .i1⟩) (broadcastInDim S8x100x4 ![0, 1] bcast_S8x100_S8x100x4_0_1),
    TRef.nullary (.of main_call8_cst : TRef sig ⟨S_, .f32⟩) (constant S_ .f32 0x7FC00000#32),
    TRef.unary (.of main_call8_cst : TRef sig ⟨S_, .f32⟩) (.of main_call8_v16 : TRef sig ⟨S8x100x4, .f32⟩) (broadcastInDim S8x100x4 ![] bcast_S_S8x100x4),
    TRef.ternary (.of main_call8_v15 : TRef sig ⟨S8x100x4, .i1⟩) (.of main_call8_v14 : TRef sig ⟨S8x100x4, .f32⟩) (.of main_call8_v16 : TRef sig ⟨S8x100x4, .f32⟩) (.of main_v18 : TRef sig ⟨S8x100x4, .f32⟩) select ]

/-- the −1 of the unfilled boxes; -/
abbrev postOps2 : List (HloOp τ sig (Elt F)) :=
  [ nullary main_cst_6 (constant S_ .f32 0xBF800000#32) ]

/-- the boxes masked; -/
abbrev postOps3 : List (HloOp τ sig (Elt F)) :=
  [ TRef.unary (.of main_cst_6 : TRef sig ⟨S_, .f32⟩) (.of main_call9_v0 : TRef sig ⟨S_, .f32⟩) id,
    TRef.unary (.of main_v17 : TRef sig ⟨S8x100x1, .i1⟩) (.of main_call9_v1 : TRef sig ⟨S8x100x4, .i1⟩) (broadcastInDim S8x100x4 ![0, 1, 2] bcast_S8x100x1_S8x100x4_0_1_2),
    TRef.unary (.of main_call9_v0 : TRef sig ⟨S_, .f32⟩) (.of main_call9_v2 : TRef sig ⟨S100x4, .f32⟩) (broadcastInDim S100x4 ![] bcast_S_S100x4),
    TRef.unary (.of main_call9_v2 : TRef sig ⟨S100x4, .f32⟩) (.of main_call9_v3 : TRef sig ⟨S8x100x4, .f32⟩) (broadcastInDim S8x100x4 ![1, 2] bcast_S100x4_S8x100x4_1_2),
    TRef.ternary (.of main_call9_v1 : TRef sig ⟨S8x100x4, .i1⟩) (.of main_v18 : TRef sig ⟨S8x100x4, .f32⟩) (.of main_call9_v3 : TRef sig ⟨S8x100x4, .f32⟩) (.of main_v19 : TRef sig ⟨S8x100x4, .f32⟩) select ]

/-- the classes taken at the picks; -/
abbrev postOps4 : List (HloOp τ sig (Elt F)) :=
  [ TRef.nullary (.of main_call10_c : TRef sig ⟨S_, .i32⟩) (constantI S_ 32 0#32),
    TRef.unary (.of main_call10_c : TRef sig ⟨S_, .i32⟩) (.of main_call10_v0 : TRef sig ⟨S100x8, .i32⟩) (broadcastInDim S100x8 ![] bcast_S_S100x8),
    TRef.binary (.of main_v8_3 : TRef sig ⟨S100x8, .i32⟩) (.of main_call10_v0 : TRef sig ⟨S100x8, .i32⟩) (.of main_call10_v1 : TRef sig ⟨S100x8, .i1⟩) (cmpi .slt),
    TRef.nullary (.of main_call10_c_0 : TRef sig ⟨S_, .i32⟩) (constantI S_ 32 20000#32),
    TRef.unary (.of main_call10_c_0 : TRef sig ⟨S_, .i32⟩) (.of main_call10_v2 : TRef sig ⟨S100x8, .i32⟩) (broadcastInDim S100x8 ![] bcast_S_S100x8),
    TRef.binary (.of main_v8_3 : TRef sig ⟨S100x8, .i32⟩) (.of main_call10_v2 : TRef sig ⟨S100x8, .i32⟩) (.of main_call10_v3 : TRef sig ⟨S100x8, .i32⟩) addi,
    TRef.ternary (.of main_call10_v1 : TRef sig ⟨S100x8, .i1⟩) (.of main_call10_v3 : TRef sig ⟨S100x8, .i32⟩) (.of main_v8_3 : TRef sig ⟨S100x8, .i32⟩) (.of main_call10_v4 : TRef sig ⟨S100x8, .i32⟩) select,
    TRef.unary main_call10_call0.v0 (.of main_call10_v5 : TRef sig ⟨S8x100, .i32⟩) (transpose S8x100 [1, 0] · transposes_S100x8_S8x100_1_0),
    TRef.unary (.of main_call10_v5 : TRef sig ⟨S8x100, .i32⟩) (.of main_call10_v6 : TRef sig ⟨S8x100x1, .i32⟩) (broadcastInDim S8x100x1 ![0, 1] bcast_S8x100_S8x100x1_0_1),
    TRef.nullary (.of main_call10_c_1 : TRef sig ⟨S1, .i32⟩) (constantI S1 32 19999#32),
    TRef.nullary (.of main_call10_c_2 : TRef sig ⟨S_, .i32⟩) (constantI S_ 32 0#32),
    TRef.unary (.of main_call10_c_2 : TRef sig ⟨S_, .i32⟩) (.of main_call10_v7 : TRef sig ⟨S8x100x1, .i32⟩) (broadcastInDim S8x100x1 ![] bcast_S_S8x100x1),
    TRef.binary (.of main_call10_v6 : TRef sig ⟨S8x100x1, .i32⟩) (.of main_call10_v7 : TRef sig ⟨S8x100x1, .i32⟩) (.of main_call10_v8 : TRef sig ⟨S8x100x1, .i1⟩) (cmpi .sge),
    TRef.unary (.of main_call10_c_1 : TRef sig ⟨S1, .i32⟩) (.of main_call10_v9 : TRef sig ⟨S1x1x1, .i32⟩) (broadcastInDim S1x1x1 ![2] bcast_S1_S1x1x1_2),
    TRef.unary (.of main_call10_v9 : TRef sig ⟨S1x1x1, .i32⟩) (.of main_call10_v10 : TRef sig ⟨S8x100x1, .i32⟩) (broadcastInDim S8x100x1 ![0, 1, 2] bcast_S1x1x1_S8x100x1_0_1_2),
    TRef.binary (.of main_call10_v6 : TRef sig ⟨S8x100x1, .i32⟩) (.of main_call10_v10 : TRef sig ⟨S8x100x1, .i32⟩) (.of main_call10_v11 : TRef sig ⟨S8x100x1, .i1⟩) (cmpi .sle),
    TRef.binary (.of main_call10_v8 : TRef sig ⟨S8x100x1, .i1⟩) (.of main_call10_v11 : TRef sig ⟨S8x100x1, .i1⟩) (.of main_call10_v12 : TRef sig ⟨S8x100x1, .i1⟩) andi,
    TRef.nullary (.of main_call10_c_3 : TRef sig ⟨S_, .i1⟩) (constantI S_ 1 1#1),
    TRef.binary (.of main_call10_v12 : TRef sig ⟨S8x100x1, .i1⟩) (.of main_call10_c_3 : TRef sig ⟨S_, .i1⟩) (.of main_call10_v13 : TRef sig ⟨S8x100, .i1⟩) (fun x v => Host.reduce IntOp.andi x v reducesTo_S8x100x1_S8x100_d2 h_S_),
    TRef.binary (.of main_v1 : TRef sig ⟨S8x20000, .i32⟩) (.of main_call10_v6 : TRef sig ⟨S8x100x1, .i32⟩) (.of main_call10_v14 : TRef sig ⟨S8x100, .i32⟩) (fun x i => Host.gather gather_S8x20000_S8x100x1_S8x100_n_1_0_0_1_2_11 x i),
    TRef.nullary (.of main_call10_c_4 : TRef sig ⟨S_, .i32⟩) (constantI S_ 32 2147483648#32),
    TRef.unary (.of main_call10_c_4 : TRef sig ⟨S_, .i32⟩) (.of main_call10_v15 : TRef sig ⟨S8x100, .i32⟩) (broadcastInDim S8x100 ![] bcast_S_S8x100),
    TRef.ternary (.of main_call10_v13 : TRef sig ⟨S8x100, .i1⟩) (.of main_call10_v14 : TRef sig ⟨S8x100, .i32⟩) (.of main_call10_v15 : TRef sig ⟨S8x100, .i32⟩) (.of main_v20 : TRef sig ⟨S8x100, .i32⟩) select ]

/-- the −1 of the unfilled classes; -/
abbrev postOps5 : List (HloOp τ sig (Elt F)) :=
  [ nullary main_c_7 (constantI S_ 32 4294967295#32) ]

/-- the classes masked; -/
abbrev postOps6 : List (HloOp τ sig (Elt F)) :=
  [ TRef.unary (.of main_c_7 : TRef sig ⟨S_, .i32⟩) (.of main_call11_v0 : TRef sig ⟨S_, .i32⟩) id,
    TRef.unary (.of main_call11_v0 : TRef sig ⟨S_, .i32⟩) (.of main_call11_v1 : TRef sig ⟨S100, .i32⟩) (broadcastInDim S100 ![] bcast_S_S100),
    TRef.unary (.of main_call11_v1 : TRef sig ⟨S100, .i32⟩) (.of main_call11_v2 : TRef sig ⟨S8x100, .i32⟩) (broadcastInDim S8x100 ![1] bcast_S100_S8x100_1),
    TRef.ternary (.of main_v16 : TRef sig ⟨S8x100, .i1⟩) (.of main_v20 : TRef sig ⟨S8x100, .i32⟩) (.of main_call11_v2 : TRef sig ⟨S8x100, .i32⟩) (.of main_v21 : TRef sig ⟨S8x100, .i32⟩) select ]

/-- the −1 of the unfilled scores; -/
abbrev postOps7 : List (HloOp τ sig (Elt F)) :=
  [ nullary main_cst_8 (constant S_ .f32 0xBF800000#32) ]

/-- the scores masked. -/
abbrev postOps8 : List (HloOp τ sig (Elt F)) :=
  [ TRef.unary (.of main_cst_8 : TRef sig ⟨S_, .f32⟩) (.of main_call12_v0 : TRef sig ⟨S_, .f32⟩) id,
    TRef.unary (.of main_call12_v0 : TRef sig ⟨S_, .f32⟩) (.of main_call12_v1 : TRef sig ⟨S100, .f32⟩) (broadcastInDim S100 ![] bcast_S_S100),
    TRef.unary (.of main_call12_v1 : TRef sig ⟨S100, .f32⟩) (.of main_call12_v2 : TRef sig ⟨S8x100, .f32⟩) (broadcastInDim S8x100 ![1] bcast_S100_S8x100_1),
    TRef.unary (.of main_v8_4 : TRef sig ⟨S100x8, .f32⟩) (.of main_call12_v3 : TRef sig ⟨S8x100, .f32⟩) (transpose S8x100 [1, 0] · transposes_S100x8_S8x100_1_0),
    TRef.ternary (.of main_v16 : TRef sig ⟨S8x100, .i1⟩) (.of main_call12_v3 : TRef sig ⟨S8x100, .f32⟩) (.of main_call12_v2 : TRef sig ⟨S8x100, .f32⟩) (.of main_v22 : TRef sig ⟨S8x100, .f32⟩) select ]

/-- The pick of a trip: the first index of the largest live score. -/
abbrev tripOps0 : List (HloOp τ sig (Elt F)) :=
  [ TRef.nullary (.of main_while0b_call2_v0 : TRef sig ⟨S8x20000, .i32⟩) (iotaInDim S8x20000 32 1),
    TRef.nullary (.of main_while0b_call2_cst : TRef sig ⟨S_, .f32⟩) (constant S_ .f32 0xFF800000#32),
    TRef.nullary (.of main_while0b_call2_c : TRef sig ⟨S_, .i32⟩) (constantI S_ 32 0#32),
    TRef.quaternary (.of main_v8_2 : TRef sig ⟨S8x20000, .f32⟩) (.of main_while0b_call2_v0 : TRef sig ⟨S8x20000, .i32⟩) (.of main_while0b_call2_cst : TRef sig ⟨S_, .f32⟩) (.of main_while0b_call2_c : TRef sig ⟨S_, .i32⟩) (.of main_while0b_call2_v1_0 : TRef sig ⟨S8, .f32⟩) (fun x y u v j => (Host.argReduce reducer_argmax_f32_i32 x y u v reducesTo_S8x20000_S8_d1 h_S_ j).1),
    TRef.quaternary (.of main_v8_2 : TRef sig ⟨S8x20000, .f32⟩) (.of main_while0b_call2_v0 : TRef sig ⟨S8x20000, .i32⟩) (.of main_while0b_call2_cst : TRef sig ⟨S_, .f32⟩) (.of main_while0b_call2_c : TRef sig ⟨S_, .i32⟩) (.of main_while0b_v23 : TRef sig ⟨S8, .i32⟩) (fun x y u v j => (Host.argReduce reducer_argmax_f32_i32 x y u v reducesTo_S8x20000_S8_d1 h_S_ j).2) ]

set_option maxHeartbeats 40000000 in
/-- The picked score and box, and the overlap of the picked box with every box. -/
abbrev tripOps1 : List (HloOp τ sig (Elt F)) :=
  ( unary main_while0b_v23 main_while0b_v24 (broadcastInDim S8x1 ![0] bcast_S8_S8x1_0 : (⟨S8, .i32⟩ : BufTy).Contents (Elt F) → (⟨S8x1, .i32⟩ : BufTy).Contents (Elt F))
  :: nullary main_while0b_c_14 (constantI S_ 32 0#32)
  :: unary main_while0b_c_14 main_while0b_v25 (broadcastInDim S8x1 ![] bcast_S_S8x1 : (⟨S_, .i32⟩ : BufTy).Contents (Elt F) → (⟨S8x1, .i32⟩ : BufTy).Contents (Elt F))
  :: binary main_while0b_v24 main_while0b_v25 main_while0b_v26 (cmpi .slt : (⟨S8x1, .i32⟩ : BufTy).Contents (Elt F) → (⟨S8x1, .i32⟩ : BufTy).Contents (Elt F) → (⟨S8x1, .i1⟩ : BufTy).Contents (Elt F))
  :: nullary main_while0b_c_15 (constantI S_ 32 20000#32)
  :: unary main_while0b_c_15 main_while0b_v27 (broadcastInDim S8x1 ![] bcast_S_S8x1 : (⟨S_, .i32⟩ : BufTy).Contents (Elt F) → (⟨S8x1, .i32⟩ : BufTy).Contents (Elt F))
  :: binary main_while0b_v24 main_while0b_v27 main_while0b_v28 (addi : (⟨S8x1, .i32⟩ : BufTy).Contents (Elt F) → (⟨S8x1, .i32⟩ : BufTy).Contents (Elt F) → (⟨S8x1, .i32⟩ : BufTy).Contents (Elt F))
  :: ternary main_while0b_v26 main_while0b_v28 main_while0b_v24 main_while0b_v29 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: unary main_while0b_v29 main_while0b_v30 (broadcastInDim S8x1x1 ![0, 1] bcast_S8x1_S8x1x1_0_1 : (⟨S8x1, .i32⟩ : BufTy).Contents (Elt F) → (⟨S8x1x1, .i32⟩ : BufTy).Contents (Elt F))
  :: binary main_v8_2 main_while0b_v30 main_while0b_v31 ((fun x i => Host.gather gather_S8x20000_S8x1x1_S8x1_n_1_0_0_1_2_11 x i) : (⟨S8x20000, .f32⟩ : BufTy).Contents (Elt F) → (⟨S8x1x1, .i32⟩ : BufTy).Contents (Elt F) → (⟨S8x1, .f32⟩ : BufTy).Contents (Elt F))
  :: reshape main_while0b_v31 main_while0b_v32 (rfl : (.f32 : EltTy) = .f32) shapeCasts_S8x1_S8
  :: nullary main_while0b_cst_16 (constant S_ .f32 0xCDEE6B28#32)
  :: unary main_while0b_cst_16 main_while0b_v33 (broadcastInDim S8 ![] bcast_S_S8 : (⟨S_, .f32⟩ : BufTy).Contents (Elt F) → (⟨S8, .f32⟩ : BufTy).Contents (Elt F))
  :: binary main_while0b_v32 main_while0b_v33 main_while0b_v34 (cmpf .ogt : (⟨S8, .f32⟩ : BufTy).Contents (Elt F) → (⟨S8, .f32⟩ : BufTy).Contents (Elt F) → (⟨S8, .i1⟩ : BufTy).Contents (Elt F))
  :: unary main_while0b_v23 main_while0b_v35 (broadcastInDim S8x1 ![0] bcast_S8_S8x1_0 : (⟨S8, .i32⟩ : BufTy).Contents (Elt F) → (⟨S8x1, .i32⟩ : BufTy).Contents (Elt F))
  :: nullary main_while0b_c_17 (constantI S_ 32 0#32)
  :: unary main_while0b_c_17 main_while0b_v36 (broadcastInDim S8x1 ![] bcast_S_S8x1 : (⟨S_, .i32⟩ : BufTy).Contents (Elt F) → (⟨S8x1, .i32⟩ : BufTy).Contents (Elt F))
  :: binary main_while0b_v35 main_while0b_v36 main_while0b_v37 (cmpi .slt : (⟨S8x1, .i32⟩ : BufTy).Contents (Elt F) → (⟨S8x1, .i32⟩ : BufTy).Contents (Elt F) → (⟨S8x1, .i1⟩ : BufTy).Contents (Elt F))
  :: nullary main_while0b_c_18 (constantI S_ 32 20000#32)
  :: unary main_while0b_c_18 main_while0b_v38 (broadcastInDim S8x1 ![] bcast_S_S8x1 : (⟨S_, .i32⟩ : BufTy).Contents (Elt F) → (⟨S8x1, .i32⟩ : BufTy).Contents (Elt F))
  :: binary main_while0b_v35 main_while0b_v38 main_while0b_v39 (addi : (⟨S8x1, .i32⟩ : BufTy).Contents (Elt F) → (⟨S8x1, .i32⟩ : BufTy).Contents (Elt F) → (⟨S8x1, .i32⟩ : BufTy).Contents (Elt F))
  :: ternary main_while0b_v37 main_while0b_v39 main_while0b_v35 main_while0b_v40 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: unary main_while0b_v40 main_while0b_v41 (broadcastInDim S8x1x1 ![0, 1] bcast_S8x1_S8x1x1_0_1 : (⟨S8x1, .i32⟩ : BufTy).Contents (Elt F) → (⟨S8x1x1, .i32⟩ : BufTy).Contents (Elt F))
  :: binary main_v8_0 main_while0b_v41 main_while0b_v42 ((fun x i => Host.gather gather_S8x20000x4_S8x1x1_S8x1x4_2_1_0_0_1_2_114 x i) : (⟨S8x20000x4, .f32⟩ : BufTy).Contents (Elt F) → (⟨S8x1x1, .i32⟩ : BufTy).Contents (Elt F) → (⟨S8x1x4, .f32⟩ : BufTy).Contents (Elt F))
  :: reshape main_while0b_v42 main_while0b_v43 (rfl : (.f32 : EltTy) = .f32) shapeCasts_S8x1x4_S8x4
  :: unary main_while0b_v43 main_while0b_v44 ((extractStridedSlice S8x1 ![0, 0] · slices_S8x4_S8x1_0_0) : (⟨S8x4, .f32⟩ : BufTy).Contents (Elt F) → (⟨S8x1, .f32⟩ : BufTy).Contents (Elt F))
  :: reshape main_while0b_v44 main_while0b_v45 (rfl : (.f32 : EltTy) = .f32) shapeCasts_S8x1_S8
  :: unary main_v8_0 main_while0b_v46 ((extractStridedSlice S8x20000x1 ![0, 0, 0] · slices_S8x20000x4_S8x20000x1_0_0_0) : (⟨S8x20000x4, .f32⟩ : BufTy).Contents (Elt F) → (⟨S8x20000x1, .f32⟩ : BufTy).Contents (Elt F))
  :: reshape main_while0b_v46 main_while0b_v47 (rfl : (.f32 : EltTy) = .f32) shapeCasts_S8x20000x1_S8x20000
  :: unary main_while0b_v45 main_while0b_v48 (broadcastInDim S8x1 ![0] bcast_S8_S8x1_0 : (⟨S8, .f32⟩ : BufTy).Contents (Elt F) → (⟨S8x1, .f32⟩ : BufTy).Contents (Elt F))
  :: unary main_while0b_v48 main_while0b_v49 (broadcastInDim S8x20000 ![0, 1] bcast_S8x1_S8x20000_0_1 : (⟨S8x1, .f32⟩ : BufTy).Contents (Elt F) → (⟨S8x20000, .f32⟩ : BufTy).Contents (Elt F))
  :: binary main_while0b_v49 main_while0b_v47 main_while0b_v50 (maximumf : (⟨S8x20000, .f32⟩ : BufTy).Contents (Elt F) → (⟨S8x20000, .f32⟩ : BufTy).Contents (Elt F) → (⟨S8x20000, .f32⟩ : BufTy).Contents (Elt F))
  :: unary main_while0b_v43 main_while0b_v51 ((extractStridedSlice S8x1 ![0, 1] · slices_S8x4_S8x1_0_1) : (⟨S8x4, .f32⟩ : BufTy).Contents (Elt F) → (⟨S8x1, .f32⟩ : BufTy).Contents (Elt F))
  :: reshape main_while0b_v51 main_while0b_v52 (rfl : (.f32 : EltTy) = .f32) shapeCasts_S8x1_S8
  :: unary main_v8_0 main_while0b_v53 ((extractStridedSlice S8x20000x1 ![0, 0, 1] · slices_S8x20000x4_S8x20000x1_0_0_1) : (⟨S8x20000x4, .f32⟩ : BufTy).Contents (Elt F) → (⟨S8x20000x1, .f32⟩ : BufTy).Contents (Elt F))
  :: reshape main_while0b_v53 main_while0b_v54 (rfl : (.f32 : EltTy) = .f32) shapeCasts_S8x20000x1_S8x20000
  :: unary main_while0b_v52 main_while0b_v55 (broadcastInDim S8x1 ![0] bcast_S8_S8x1_0 : (⟨S8, .f32⟩ : BufTy).Contents (Elt F) → (⟨S8x1, .f32⟩ : BufTy).Contents (Elt F))
  :: unary main_while0b_v55 main_while0b_v56 (broadcastInDim S8x20000 ![0, 1] bcast_S8x1_S8x20000_0_1 : (⟨S8x1, .f32⟩ : BufTy).Contents (Elt F) → (⟨S8x20000, .f32⟩ : BufTy).Contents (Elt F))
  :: binary main_while0b_v56 main_while0b_v54 main_while0b_v57 (maximumf : (⟨S8x20000, .f32⟩ : BufTy).Contents (Elt F) → (⟨S8x20000, .f32⟩ : BufTy).Contents (Elt F) → (⟨S8x20000, .f32⟩ : BufTy).Contents (Elt F))
  :: unary main_while0b_v43 main_while0b_v58 ((extractStridedSlice S8x1 ![0, 2] · slices_S8x4_S8x1_0_2) : (⟨S8x4, .f32⟩ : BufTy).Contents (Elt F) → (⟨S8x1, .f32⟩ : BufTy).Contents (Elt F))
  :: reshape main_while0b_v58 main_while0b_v59 (rfl : (.f32 : EltTy) = .f32) shapeCasts_S8x1_S8
  :: unary main_v8_0 main_while0b_v60 ((extractStridedSlice S8x20000x1 ![0, 0, 2] · slices_S8x20000x4_S8x20000x1_0_0_2) : (⟨S8x20000x4, .f32⟩ : BufTy).Contents (Elt F) → (⟨S8x20000x1, .f32⟩ : BufTy).Contents (Elt F))
  :: reshape main_while0b_v60 main_while0b_v61 (rfl : (.f32 : EltTy) = .f32) shapeCasts_S8x20000x1_S8x20000
  :: unary main_while0b_v59 main_while0b_v62 (broadcastInDim S8x1 ![0] bcast_S8_S8x1_0 : (⟨S8, .f32⟩ : BufTy).Contents (Elt F) → (⟨S8x1, .f32⟩ : BufTy).Contents (Elt F))
  :: unary main_while0b_v62 main_while0b_v63 (broadcastInDim S8x20000 ![0, 1] bcast_S8x1_S8x20000_0_1 : (⟨S8x1, .f32⟩ : BufTy).Contents (Elt F) → (⟨S8x20000, .f32⟩ : BufTy).Contents (Elt F))
  :: binary main_while0b_v63 main_while0b_v61 main_while0b_v64 (minimumf : (⟨S8x20000, .f32⟩ : BufTy).Contents (Elt F) → (⟨S8x20000, .f32⟩ : BufTy).Contents (Elt F) → (⟨S8x20000, .f32⟩ : BufTy).Contents (Elt F))
  :: unary main_while0b_v43 main_while0b_v65 ((extractStridedSlice S8x1 ![0, 3] · slices_S8x4_S8x1_0_3) : (⟨S8x4, .f32⟩ : BufTy).Contents (Elt F) → (⟨S8x1, .f32⟩ : BufTy).Contents (Elt F))
  :: reshape main_while0b_v65 main_while0b_v66 (rfl : (.f32 : EltTy) = .f32) shapeCasts_S8x1_S8
  :: unary main_v8_0 main_while0b_v67 ((extractStridedSlice S8x20000x1 ![0, 0, 3] · slices_S8x20000x4_S8x20000x1_0_0_3) : (⟨S8x20000x4, .f32⟩ : BufTy).Contents (Elt F) → (⟨S8x20000x1, .f32⟩ : BufTy).Contents (Elt F))
  :: reshape main_while0b_v67 main_while0b_v68 (rfl : (.f32 : EltTy) = .f32) shapeCasts_S8x20000x1_S8x20000
  :: unary main_while0b_v66 main_while0b_v69 (broadcastInDim S8x1 ![0] bcast_S8_S8x1_0 : (⟨S8, .f32⟩ : BufTy).Contents (Elt F) → (⟨S8x1, .f32⟩ : BufTy).Contents (Elt F))
  :: unary main_while0b_v69 main_while0b_v70 (broadcastInDim S8x20000 ![0, 1] bcast_S8x1_S8x20000_0_1 : (⟨S8x1, .f32⟩ : BufTy).Contents (Elt F) → (⟨S8x20000, .f32⟩ : BufTy).Contents (Elt F))
  :: binary main_while0b_v70 main_while0b_v68 main_while0b_v71 (minimumf : (⟨S8x20000, .f32⟩ : BufTy).Contents (Elt F) → (⟨S8x20000, .f32⟩ : BufTy).Contents (Elt F) → (⟨S8x20000, .f32⟩ : BufTy).Contents (Elt F))
  :: binary main_while0b_v64 main_while0b_v50 main_while0b_v72 (subf : (⟨S8x20000, .f32⟩ : BufTy).Contents (Elt F) → (⟨S8x20000, .f32⟩ : BufTy).Contents (Elt F) → (⟨S8x20000, .f32⟩ : BufTy).Contents (Elt F))
  :: nullary main_while0b_cst_19 (constant S_ .f32 0x00000000#32)
  :: unary main_while0b_cst_19 main_while0b_v73 (broadcastInDim S8x20000 ![] bcast_S_S8x20000 : (⟨S_, .f32⟩ : BufTy).Contents (Elt F) → (⟨S8x20000, .f32⟩ : BufTy).Contents (Elt F))
  :: binary main_while0b_v72 main_while0b_v73 main_while0b_v74 (maximumf : (⟨S8x20000, .f32⟩ : BufTy).Contents (Elt F) → (⟨S8x20000, .f32⟩ : BufTy).Contents (Elt F) → (⟨S8x20000, .f32⟩ : BufTy).Contents (Elt F))
  :: binary main_while0b_v71 main_while0b_v57 main_while0b_v75 (subf : (⟨S8x20000, .f32⟩ : BufTy).Contents (Elt F) → (⟨S8x20000, .f32⟩ : BufTy).Contents (Elt F) → (⟨S8x20000, .f32⟩ : BufTy).Contents (Elt F))
  :: nullary main_while0b_cst_20 (constant S_ .f32 0x00000000#32)
  :: unary main_while0b_cst_20 main_while0b_v76 (broadcastInDim S8x20000 ![] bcast_S_S8x20000 : (⟨S_, .f32⟩ : BufTy).Contents (Elt F) → (⟨S8x20000, .f32⟩ : BufTy).Contents (Elt F))
  :: binary main_while0b_v75 main_while0b_v76 main_while0b_v77 (maximumf : (⟨S8x20000, .f32⟩ : BufTy).Contents (Elt F) → (⟨S8x20000, .f32⟩ : BufTy).Contents (Elt F) → (⟨S8x20000, .f32⟩ : BufTy).Contents (Elt F))
  :: binary main_while0b_v74 main_while0b_v77 main_while0b_v78 (mulf : (⟨S8x20000, .f32⟩ : BufTy).Contents (Elt F) → (⟨S8x20000, .f32⟩ : BufTy).Contents (Elt F) → (⟨S8x20000, .f32⟩ : BufTy).Contents (Elt F))
  :: unary main_while0b_v43 main_while0b_v79 ((extractStridedSlice S8x1 ![0, 2] · slices_S8x4_S8x1_0_2) : (⟨S8x4, .f32⟩ : BufTy).Contents (Elt F) → (⟨S8x1, .f32⟩ : BufTy).Contents (Elt F))
  :: reshape main_while0b_v79 main_while0b_v80 (rfl : (.f32 : EltTy) = .f32) shapeCasts_S8x1_S8
  :: unary main_while0b_v43 main_while0b_v81 ((extractStridedSlice S8x1 ![0, 0] · slices_S8x4_S8x1_0_0) : (⟨S8x4, .f32⟩ : BufTy).Contents (Elt F) → (⟨S8x1, .f32⟩ : BufTy).Contents (Elt F))
  :: reshape main_while0b_v81 main_while0b_v82 (rfl : (.f32 : EltTy) = .f32) shapeCasts_S8x1_S8
  :: binary main_while0b_v80 main_while0b_v82 main_while0b_v83 (subf : (⟨S8, .f32⟩ : BufTy).Contents (Elt F) → (⟨S8, .f32⟩ : BufTy).Contents (Elt F) → (⟨S8, .f32⟩ : BufTy).Contents (Elt F))
  :: unary main_while0b_v43 main_while0b_v84 ((extractStridedSlice S8x1 ![0, 3] · slices_S8x4_S8x1_0_3) : (⟨S8x4, .f32⟩ : BufTy).Contents (Elt F) → (⟨S8x1, .f32⟩ : BufTy).Contents (Elt F))
  :: reshape main_while0b_v84 main_while0b_v85 (rfl : (.f32 : EltTy) = .f32) shapeCasts_S8x1_S8
  :: unary main_while0b_v43 main_while0b_v86 ((extractStridedSlice S8x1 ![0, 1] · slices_S8x4_S8x1_0_1) : (⟨S8x4, .f32⟩ : BufTy).Contents (Elt F) → (⟨S8x1, .f32⟩ : BufTy).Contents (Elt F))
  :: reshape main_while0b_v86 main_while0b_v87 (rfl : (.f32 : EltTy) = .f32) shapeCasts_S8x1_S8
  :: binary main_while0b_v85 main_while0b_v87 main_while0b_v88 (subf : (⟨S8, .f32⟩ : BufTy).Contents (Elt F) → (⟨S8, .f32⟩ : BufTy).Contents (Elt F) → (⟨S8, .f32⟩ : BufTy).Contents (Elt F))
  :: binary main_while0b_v83 main_while0b_v88 main_while0b_v89 (mulf : (⟨S8, .f32⟩ : BufTy).Contents (Elt F) → (⟨S8, .f32⟩ : BufTy).Contents (Elt F) → (⟨S8, .f32⟩ : BufTy).Contents (Elt F))
  :: unary main_v8_0 main_while0b_v90 ((extractStridedSlice S8x20000x1 ![0, 0, 2] · slices_S8x20000x4_S8x20000x1_0_0_2) : (⟨S8x20000x4, .f32⟩ : BufTy).Contents (Elt F) → (⟨S8x20000x1, .f32⟩ : BufTy).Contents (Elt F))
  :: reshape main_while0b_v90 main_while0b_v91 (rfl : (.f32 : EltTy) = .f32) shapeCasts_S8x20000x1_S8x20000
  :: unary main_v8_0 main_while0b_v92 ((extractStridedSlice S8x20000x1 ![0, 0, 0] · slices_S8x20000x4_S8x20000x1_0_0_0) : (⟨S8x20000x4, .f32⟩ : BufTy).Contents (Elt F) → (⟨S8x20000x1, .f32⟩ : BufTy).Contents (Elt F))
  :: reshape main_while0b_v92 main_while0b_v93 (rfl : (.f32 : EltTy) = .f32) shapeCasts_S8x20000x1_S8x20000
  :: binary main_while0b_v91 main_while0b_v93 main_while0b_v94 (subf : (⟨S8x20000, .f32⟩ : BufTy).Contents (Elt F) → (⟨S8x20000, .f32⟩ : BufTy).Contents (Elt F) → (⟨S8x20000, .f32⟩ : BufTy).Contents (Elt F))
  :: unary main_v8_0 main_while0b_v95 ((extractStridedSlice S8x20000x1 ![0, 0, 3] · slices_S8x20000x4_S8x20000x1_0_0_3) : (⟨S8x20000x4, .f32⟩ : BufTy).Contents (Elt F) → (⟨S8x20000x1, .f32⟩ : BufTy).Contents (Elt F))
  :: reshape main_while0b_v95 main_while0b_v96 (rfl : (.f32 : EltTy) = .f32) shapeCasts_S8x20000x1_S8x20000
  :: unary main_v8_0 main_while0b_v97 ((extractStridedSlice S8x20000x1 ![0, 0, 1] · slices_S8x20000x4_S8x20000x1_0_0_1) : (⟨S8x20000x4, .f32⟩ : BufTy).Contents (Elt F) → (⟨S8x20000x1, .f32⟩ : BufTy).Contents (Elt F))
  :: reshape main_while0b_v97 main_while0b_v98 (rfl : (.f32 : EltTy) = .f32) shapeCasts_S8x20000x1_S8x20000
  :: binary main_while0b_v96 main_while0b_v98 main_while0b_v99 (subf : (⟨S8x20000, .f32⟩ : BufTy).Contents (Elt F) → (⟨S8x20000, .f32⟩ : BufTy).Contents (Elt F) → (⟨S8x20000, .f32⟩ : BufTy).Contents (Elt F))
  :: binary main_while0b_v94 main_while0b_v99 main_while0b_v100 (mulf : (⟨S8x20000, .f32⟩ : BufTy).Contents (Elt F) → (⟨S8x20000, .f32⟩ : BufTy).Contents (Elt F) → (⟨S8x20000, .f32⟩ : BufTy).Contents (Elt F))
  :: unary main_while0b_v89 main_while0b_v101 (broadcastInDim S8x1 ![0] bcast_S8_S8x1_0 : (⟨S8, .f32⟩ : BufTy).Contents (Elt F) → (⟨S8x1, .f32⟩ : BufTy).Contents (Elt F))
  :: unary main_while0b_v101 main_while0b_v102 (broadcastInDim S8x20000 ![0, 1] bcast_S8x1_S8x20000_0_1 : (⟨S8x1, .f32⟩ : BufTy).Contents (Elt F) → (⟨S8x20000, .f32⟩ : BufTy).Contents (Elt F))
  :: binary main_while0b_v102 main_while0b_v100 main_while0b_v103 (addf : (⟨S8x20000, .f32⟩ : BufTy).Contents (Elt F) → (⟨S8x20000, .f32⟩ : BufTy).Contents (Elt F) → (⟨S8x20000, .f32⟩ : BufTy).Contents (Elt F))
  :: binary main_while0b_v103 main_while0b_v78 main_while0b_v104 (subf : (⟨S8x20000, .f32⟩ : BufTy).Contents (Elt F) → (⟨S8x20000, .f32⟩ : BufTy).Contents (Elt F) → (⟨S8x20000, .f32⟩ : BufTy).Contents (Elt F))
  :: nullary main_while0b_cst_21 (constant S_ .f32 0x322BCC77#32)
  :: unary main_while0b_cst_21 main_while0b_v105 (broadcastInDim S8x20000 ![] bcast_S_S8x20000 : (⟨S_, .f32⟩ : BufTy).Contents (Elt F) → (⟨S8x20000, .f32⟩ : BufTy).Contents (Elt F))
  :: binary main_while0b_v104 main_while0b_v105 main_while0b_v106 (addf : (⟨S8x20000, .f32⟩ : BufTy).Contents (Elt F) → (⟨S8x20000, .f32⟩ : BufTy).Contents (Elt F) → (⟨S8x20000, .f32⟩ : BufTy).Contents (Elt F))
  :: binary main_while0b_v78 main_while0b_v106 main_while0b_v107 (Host.divf : (⟨S8x20000, .f32⟩ : BufTy).Contents (Elt F) → (⟨S8x20000, .f32⟩ : BufTy).Contents (Elt F) → (⟨S8x20000, .f32⟩ : BufTy).Contents (Elt F))
  :: nullary main_while0b_cst_22 (constant S_ .f32 0x3F000000#32)
  :: unary main_while0b_cst_22 main_while0b_v108 (broadcastInDim S8x20000 ![] bcast_S_S8x20000 : (⟨S_, .f32⟩ : BufTy).Contents (Elt F) → (⟨S8x20000, .f32⟩ : BufTy).Contents (Elt F))
  :: binary main_while0b_v107 main_while0b_v108 main_while0b_v109 (cmpf .ogt : (⟨S8x20000, .f32⟩ : BufTy).Contents (Elt F) → (⟨S8x20000, .f32⟩ : BufTy).Contents (Elt F) → (⟨S8x20000, .i1⟩ : BufTy).Contents (Elt F))
  :: nullary main_while0b_cst_23 (constant S_ .f32 0xCE6E6B28#32)
  :: [] )

/-- The scores of the overlapped boxes become the suppressed value. -/
abbrev tripOps2 : List (HloOp τ sig (Elt F)) :=
  [ TRef.unary (.of main_while0b_cst_23 : TRef sig ⟨S_, .f32⟩) (.of main_while0b_call3_v0 : TRef sig ⟨S_, .f32⟩) id,
    TRef.unary (.of main_while0b_call3_v0 : TRef sig ⟨S_, .f32⟩) (.of main_while0b_call3_v1 : TRef sig ⟨S20000, .f32⟩) (broadcastInDim S20000 ![] bcast_S_S20000),
    TRef.unary (.of main_while0b_call3_v1 : TRef sig ⟨S20000, .f32⟩) (.of main_while0b_call3_v2 : TRef sig ⟨S8x20000, .f32⟩) (broadcastInDim S8x20000 ![1] bcast_S20000_S8x20000_1),
    TRef.ternary (.of main_while0b_v109 : TRef sig ⟨S8x20000, .i1⟩) (.of main_while0b_call3_v2 : TRef sig ⟨S8x20000, .f32⟩) (.of main_v8_2 : TRef sig ⟨S8x20000, .f32⟩) (.of main_while0b_v110 : TRef sig ⟨S8x20000, .f32⟩) select ]

/-- The lane numbers, compared with the pick. -/
abbrev tripOps3 : List (HloOp τ sig (Elt F)) :=
  [ nullary main_while0b_v111 (iotaInDim S20000 32 0),
    unary main_while0b_v111 main_while0b_v112 (broadcastInDim S1x20000 ![1] bcast_S20000_S1x20000_1 : (⟨S20000, .i32⟩ : BufTy).Contents (Elt F) → (⟨S1x20000, .i32⟩ : BufTy).Contents (Elt F)),
    unary main_while0b_v23 main_while0b_v113 (broadcastInDim S8x1 ![0] bcast_S8_S8x1_0 : (⟨S8, .i32⟩ : BufTy).Contents (Elt F) → (⟨S8x1, .i32⟩ : BufTy).Contents (Elt F)),
    unary main_while0b_v112 main_while0b_v114 (broadcastInDim S8x20000 ![0, 1] bcast_S1x20000_S8x20000_0_1 : (⟨S1x20000, .i32⟩ : BufTy).Contents (Elt F) → (⟨S8x20000, .i32⟩ : BufTy).Contents (Elt F)),
    unary main_while0b_v113 main_while0b_v115 (broadcastInDim S8x20000 ![0, 1] bcast_S8x1_S8x20000_0_1 : (⟨S8x1, .i32⟩ : BufTy).Contents (Elt F) → (⟨S8x20000, .i32⟩ : BufTy).Contents (Elt F)),
    binary main_while0b_v114 main_while0b_v115 main_while0b_v116 (cmpi .eq : (⟨S8x20000, .i32⟩ : BufTy).Contents (Elt F) → (⟨S8x20000, .i32⟩ : BufTy).Contents (Elt F) → (⟨S8x20000, .i1⟩ : BufTy).Contents (Elt F)),
    nullary main_while0b_cst_24 (constant S_ .f32 0xCE6E6B28#32) ]

/-- The score of the picked box becomes the suppressed value. -/
abbrev tripOps4 : List (HloOp τ sig (Elt F)) :=
  [ TRef.unary (.of main_while0b_cst_24 : TRef sig ⟨S_, .f32⟩) (.of main_while0b_call4_v0 : TRef sig ⟨S_, .f32⟩) id,
    TRef.unary (.of main_while0b_call4_v0 : TRef sig ⟨S_, .f32⟩) (.of main_while0b_call4_v1 : TRef sig ⟨S20000, .f32⟩) (broadcastInDim S20000 ![] bcast_S_S20000),
    TRef.unary (.of main_while0b_call4_v1 : TRef sig ⟨S20000, .f32⟩) (.of main_while0b_call4_v2 : TRef sig ⟨S8x20000, .f32⟩) (broadcastInDim S8x20000 ![1] bcast_S20000_S8x20000_1),
    TRef.ternary (.of main_while0b_v116 : TRef sig ⟨S8x20000, .i1⟩) (.of main_while0b_call4_v2 : TRef sig ⟨S8x20000, .f32⟩) (.of main_while0b_v110 : TRef sig ⟨S8x20000, .f32⟩) (.of main_while0b_v117 : TRef sig ⟨S8x20000, .f32⟩) select ]

/-- The pick is written to its row. -/
abbrev tripOps5 : List (HloOp τ sig (Elt F)) :=
  [ TRef.unary (.of main_while0b_v23 : TRef sig ⟨S8, .i32⟩) (.of main_while0b_call5_v0 : TRef sig ⟨S1x8, .i32⟩) (broadcastInDim S1x8 ![1] bcast_S8_S1x8_1),
    TRef.nullary (.of main_while0b_call5_c : TRef sig ⟨S_, .i32⟩) (constantI S_ 32 0#32),
    TRef.binaryIndexed (.of main_v8_3 : TRef sig ⟨S100x8, .i32⟩) (.of main_while0b_call5_v0 : TRef sig ⟨S1x8, .i32⟩) ![(.of main_v8_1 : TRef sig ⟨S_, .i32⟩), (.of main_while0b_call5_c : TRef sig ⟨S_, .i32⟩)] (.of main_while0b_v118 : TRef sig ⟨S100x8, .i32⟩) (fun x u i => Host.dynamicUpdateSlice x u (fun k => (i k (Shape.Idx.first h_S_)).toInt) updateFits_S100x8_S1x8) ]

/-- The picked score is written to its row. -/
abbrev tripOps6 : List (HloOp τ sig (Elt F)) :=
  [ TRef.unary (.of main_while0b_v32 : TRef sig ⟨S8, .f32⟩) (.of main_while0b_call6_v0 : TRef sig ⟨S1x8, .f32⟩) (broadcastInDim S1x8 ![1] bcast_S8_S1x8_1),
    TRef.nullary (.of main_while0b_call6_c : TRef sig ⟨S_, .i32⟩) (constantI S_ 32 0#32),
    TRef.binaryIndexed (.of main_v8_4 : TRef sig ⟨S100x8, .f32⟩) (.of main_while0b_call6_v0 : TRef sig ⟨S1x8, .f32⟩) ![(.of main_v8_1 : TRef sig ⟨S_, .i32⟩), (.of main_while0b_call6_c : TRef sig ⟨S_, .i32⟩)] (.of main_while0b_v119 : TRef sig ⟨S100x8, .f32⟩) (fun x u i => Host.dynamicUpdateSlice x u (fun k => (i k (Shape.Idx.first h_S_)).toInt) updateFits_S100x8_S1x8) ]

/-- Whether the pick is valid is written to its row. -/
abbrev tripOps7 : List (HloOp τ sig (Elt F)) :=
  [ TRef.unary (.of main_while0b_v34 : TRef sig ⟨S8, .i1⟩) (.of main_while0b_call7_v0 : TRef sig ⟨S1x8, .i1⟩) (broadcastInDim S1x8 ![1] bcast_S8_S1x8_1),
    TRef.nullary (.of main_while0b_call7_c : TRef sig ⟨S_, .i32⟩) (constantI S_ 32 0#32),
    TRef.binaryIndexed (.of main_v8_5 : TRef sig ⟨S100x8, .i1⟩) (.of main_while0b_call7_v0 : TRef sig ⟨S1x8, .i1⟩) ![(.of main_v8_1 : TRef sig ⟨S_, .i32⟩), (.of main_while0b_call7_c : TRef sig ⟨S_, .i32⟩)] (.of main_while0b_v120 : TRef sig ⟨S100x8, .i1⟩) (fun x u i => Host.dynamicUpdateSlice x u (fun k => (i k (Shape.Idx.first h_S_)).toInt) updateFits_S100x8_S1x8) ]

/-- The counter steps and the carried buffers are renewed. -/
abbrev tripOps8 : List (HloOp τ sig (Elt F)) :=
  [ nullary main_while0b_c_25 (constantI S_ 32 1#32),
    binary main_v8_1 main_while0b_c_25 main_while0b_v121 (addi : (⟨S_, .i32⟩ : BufTy).Contents (Elt F) → (⟨S_, .i32⟩ : BufTy).Contents (Elt F) → (⟨S_, .i32⟩ : BufTy).Contents (Elt F)),
    unary main_while0b_v121 main_v8_1 id,
    unary main_while0b_v117 main_v8_2 id,
    unary main_while0b_v118 main_v8_3 id,
    unary main_while0b_v119 main_v8_4 id,
    unary main_while0b_v120 main_v8_5 id ]

/-- The program is the chain of its stretches, the loop entered between the fifth and the sixth. -/
theorem main_chain (c : Dev nD) : main (F := F) c = (Pipeline.chain
  [ seq preOps0,
    seq preOps1,
    seq preOps2,
    seq preOps3,
    seq preOps4,
    HostLoop.enter 0,
    seq postOps0,
    seq postOps1,
    seq postOps2,
    seq postOps3,
    seq postOps4,
    seq postOps5,
    seq postOps6,
    seq postOps7,
    seq postOps8 ] : Prog (TpuEff nD τ sig (Elt F) (HostLoop.Sig (Pipeline.Sig Λ₀ (Fin 0) fun p => (pcfgs (F := F) p).Adm) 1) .tc) PUnit) := by
  rewrite [chain_seq_cons, Pipeline.chain_cons, chain_seq_cons, Pipeline.chain_cons, chain_seq_cons, Pipeline.chain_cons, chain_seq_cons, Pipeline.chain_cons, chain_seq_cons, Pipeline.chain_cons, Pipeline.chain_cons, chain_seq_cons, Pipeline.chain_cons, chain_seq_cons, Pipeline.chain_cons]
  chain_rfl

/-- The body of the loop is the chain of the stretches of one trip. -/
theorem trip_chain : main_while0_body (F := F) = (Pipeline.chain
  [ seq tripOps0,
    seq tripOps1,
    seq tripOps2,
    seq tripOps3,
    seq tripOps4,
    seq tripOps5,
    seq tripOps6,
    seq tripOps7,
    seq tripOps8 ] : Prog (TpuEff nD τ sig (Elt F) (HostLoop.Sig (Pipeline.Sig Λ₀ (Fin 0) fun p => (pcfgs (F := F) p).Adm) 1) .tc) PUnit) := by
  rewrite [Pipeline.chain_cons, chain_seq_cons, Pipeline.chain_cons, chain_seq_cons, Pipeline.chain_cons, Pipeline.chain_cons, Pipeline.chain_cons, Pipeline.chain_cons, chain_seq_cons]
  chain_rfl

end Cert.RefRun
-- ==== Proof.RefRun.lean ====
/- The run of the reference program: from any memory with zero counters every fair execution ends, and every buffer
   ends at the fold of the stretches before the loop, a hundred trips of the loop, and the stretches after it. -/
module

public import proofs.«01_k».proof.Proof.RefOps
public import Idealize.ShloMosaic.Lib.StableHlo.RunRead
public import Idealize.ShloMosaic.Lib.Scf.ExitTest
public import Idealize.ShloMosaic.Lib.Scf.Counter
public import Idealize.ShloMosaic.Lib.Pipeline.Frame
public import Idealize.ShloMosaic.Lib.Quiescent

@[expose] public section

set_option maxRecDepth 8000

noncomputable section

namespace Cert.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The stretches before the loop. -/
abbrev preI : List (List (HloOp τ sig (Elt F))) := [preOps0, preOps1, preOps2, preOps3, preOps4]
/-- The stretches of one trip. -/
abbrev tripI : List (List (HloOp τ sig (Elt F))) :=
  [tripOps0, tripOps1, tripOps2, tripOps3, tripOps4, tripOps5, tripOps6, tripOps7, tripOps8]
/-- The stretches after the loop. -/
abbrev postI : List (List (HloOp τ sig (Elt F))) :=
  [postOps0, postOps1, postOps2, postOps3, postOps4, postOps5, postOps6, postOps7, postOps8]
/-- The condition of the loop: the bound, and the counter compared with it. -/
abbrev condOps : List (HloOp τ sig (Elt F)) :=
  [ nullary main_while0c_c_14 (constantI S_ 32 100#32),
    binary main_v8_1 main_while0c_c_14 main_while0c_v23 (cmpi .slt) ]

/-- A list of operations is plain when its operations touch TensorCore buffers only and make no buffer. -/
theorem plain_cons {ops : List (HloOp τ sig (Elt F))} {rest : List (List (HloOp τ sig (Elt F)))}
    (hs : ops.Forall fun op => op.bufs ⊆ tcRefs τ sig)
    (hf : ops.map HloOp.fresh = ops.map fun _ => (∅ : Finset (DevRef τ sig))) (h : Plain rest) : Plain (ops :: rest) :=
  .cons hs h (hf := List.forall_iff_forall_mem.mp (forall_fresh_of_map hf))

set_option maxHeartbeats 40000000 in
/-- The stretches before the loop are plain. -/
theorem pre_plain : Plain (preI (F := F)) :=
  plain_cons (ops := preOps0) ⟨nullary_bufs_sub .., binary_bufs_sub ..⟩ rfl <|
  plain_cons (ops := preOps1) ⟨nullary_bufs_sub .., nullary_bufs_sub .., nullary_bufs_sub .., quaternary_bufs_sub .., quaternary_bufs_sub ..⟩ rfl <|
  plain_cons (ops := preOps2) ⟨nullary_bufs_sub .., unary_bufs_sub .., binary_bufs_sub .., nullary_bufs_sub ..⟩ rfl <|
  plain_cons (ops := preOps3) ⟨unary_bufs_sub .., unary_bufs_sub .., unary_bufs_sub .., ternary_bufs_sub ..⟩ rfl <|
  plain_cons (ops := preOps4) ⟨nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub ..⟩ rfl <|
  .nil

set_option maxHeartbeats 40000000 in
/-- The stretches of one trip are plain. -/
theorem trip_plain : Plain (tripI (F := F)) :=
  plain_cons (ops := tripOps0) ⟨nullary_bufs_sub .., nullary_bufs_sub .., nullary_bufs_sub .., quaternary_bufs_sub .., quaternary_bufs_sub ..⟩ rfl <|
  plain_cons (ops := tripOps1) ⟨unary_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub ..⟩ rfl <|
  plain_cons (ops := tripOps2) ⟨unary_bufs_sub .., unary_bufs_sub .., unary_bufs_sub .., ternary_bufs_sub ..⟩ rfl <|
  plain_cons (ops := tripOps3) ⟨nullary_bufs_sub .., unary_bufs_sub .., unary_bufs_sub .., unary_bufs_sub .., unary_bufs_sub .., binary_bufs_sub .., nullary_bufs_sub ..⟩ rfl <|
  plain_cons (ops := tripOps4) ⟨unary_bufs_sub .., unary_bufs_sub .., unary_bufs_sub .., ternary_bufs_sub ..⟩ rfl <|
  plain_cons (ops := tripOps5) ⟨unary_bufs_sub .., nullary_bufs_sub .., binaryIndexed_bufs_sub ..⟩ rfl <|
  plain_cons (ops := tripOps6) ⟨unary_bufs_sub .., nullary_bufs_sub .., binaryIndexed_bufs_sub ..⟩ rfl <|
  plain_cons (ops := tripOps7) ⟨unary_bufs_sub .., nullary_bufs_sub .., binaryIndexed_bufs_sub ..⟩ rfl <|
  plain_cons (ops := tripOps8) ⟨nullary_bufs_sub .., binary_bufs_sub .., unary_bufs_sub .., unary_bufs_sub .., unary_bufs_sub .., unary_bufs_sub .., unary_bufs_sub ..⟩ rfl <|
  .nil

set_option maxHeartbeats 40000000 in
/-- The stretches after the loop are plain. -/
theorem post_plain : Plain (postI (F := F)) :=
  plain_cons (ops := postOps0) ⟨unary_bufs_sub .., nullary_bufs_sub .., binary_bufs_sub .., nullary_bufs_sub .., unary_bufs_sub .., unary_bufs_sub .., unary_bufs_sub .., unary_bufs_sub .., binary_bufs_sub .., unary_bufs_sub ..⟩ rfl <|
  plain_cons (ops := postOps1) ⟨nullary_bufs_sub .., unary_bufs_sub .., binary_bufs_sub .., nullary_bufs_sub .., unary_bufs_sub .., binary_bufs_sub .., ternary_bufs_sub .., unary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩ rfl <|
  plain_cons (ops := postOps2) (nullary_bufs_sub ..) rfl <|
  plain_cons (ops := postOps3) ⟨unary_bufs_sub .., unary_bufs_sub .., unary_bufs_sub .., unary_bufs_sub .., ternary_bufs_sub ..⟩ rfl <|
  plain_cons (ops := postOps4) ⟨nullary_bufs_sub .., unary_bufs_sub .., binary_bufs_sub .., nullary_bufs_sub .., unary_bufs_sub .., binary_bufs_sub .., ternary_bufs_sub .., unary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩ rfl <|
  plain_cons (ops := postOps5) (nullary_bufs_sub ..) rfl <|
  plain_cons (ops := postOps6) ⟨unary_bufs_sub .., unary_bufs_sub .., unary_bufs_sub .., ternary_bufs_sub ..⟩ rfl <|
  plain_cons (ops := postOps7) (nullary_bufs_sub ..) rfl <|
  plain_cons (ops := postOps8) ⟨unary_bufs_sub .., unary_bufs_sub .., unary_bufs_sub .., unary_bufs_sub .., ternary_bufs_sub ..⟩ rfl <|
  .nil

variable (m : (ℓ : Loc nD τ sig) → Buf (Elt F) ℓ) (ρ : Dev nD → PrngReg)

/-- Every buffer's contents before the condition is tested the `k`-th time. -/
abbrev atK (k : ℕ) (c : Dev nD) : Valuation τ sig (Elt F) := atTrip condOps tripI (entryContents preI m) k c

/-- All the operations of one trip, the condition's first. -/
abbrev tripAll : List (HloOp τ sig (Elt F)) :=
  condOps ++ (tripOps0 ++ (tripOps1 ++ (tripOps2 ++ (tripOps3 ++ (tripOps4 ++ (tripOps5 ++ (tripOps6 ++ (tripOps7 ++ tripOps8))))))))

/-- One trip runs its operations in order. -/
theorem atK_succ (k : ℕ) (c : Dev nD) : atK m (k + 1) c = after tripAll (atK m k c) := by
  simp only [atK, atTrip_succ, afterL_cons, afterL_nil, tripAll, after_append]

/-- A trip moves the counter by one. -/
theorem trip_ctr (V : Valuation τ sig (Elt F)) :
    after tripAll V (Proc.devRef .tc main_v8_1) = addi (V (Proc.devRef .tc main_v8_1)) (constantI S_ 32 1#32) := by
  after_reads_simp
  rfl

/-- The counter is zero at the loop's entry. -/
theorem entry_ctr (c : Dev nD) : entryContents preI m c (Proc.devRef .tc main_v8_1) = fun _ => (0#32 : BitVec 32) := by
  simp only [entryContents, afterL_cons, afterL_nil]
  after_reads_simp
  rfl

/-- Before the `k`-th test the counter is `k`. -/
theorem atK_ctr (c : Dev nD) : ∀ k, atK m k c (Proc.devRef .tc main_v8_1) = fun _ => Scf.iv 0#32 1#32 k
  | 0 => by rw [show atK m 0 c = entryContents preI m c from rfl, entry_ctr, Scf.iv_zero]
  | k + 1 => by rw [atK_succ, trip_ctr, atK_ctr c k, Scf.iv_succ]; rfl

-- the loop rule is stated for any thread; unifying it at the TensorCore's thread unfolds plain definitions
set_option backward.isDefEq.respectTransparency.types false in
/-- The condition holds at the `k`-th test exactly when `k < 100`. -/
theorem cond_spec : CondSpec (pcfgs (F := F)) defs₀ loops (main_while0_cond (F := F)) condOps tripI (entryContents preI m) 100 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v8_1 HostLoop.idx0)
        (HloOp.result _ (atK m k c) main_while0c_c_14 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

/-- The contents of every buffer at the end of the program. -/
abbrev final (c : Dev nD) : Valuation τ sig (Elt F) := finalContents condOps preI tripI postI 100 m c

set_option maxRecDepth 100000 in
/-- Every fair execution of the reference ends, every buffer at `final`. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  run_loop (pcfgs (F := F)) defs₀ loops main 0 main_while0_cond main_while0_body rfl preI tripI postI condOps pre_plain
    trip_plain post_plain (fun c => by rw [main_chain]; rfl) (by rw [trip_chain]; rfl) 100 m ρ (cond_spec m)

end Cert.RefRun
-- ==== Proof.RefTrip.lean ====
/- What the reference's operations compute: the arrays at the loop's entry and one trip of the loop, each as one function
   of arrays; and that one trip of the program's operations leaves these functions of the buffers before it. -/
module

public import proofs.«01_k».proof.Proof.RefRun

@[expose] public section

set_option maxRecDepth 20000

noncomputable section

namespace Cert.RefRun

open Cert.ReferenceIdeal Cert.ReferenceIdeal.Gen
open Idealize.ShloMosaic Idealize.ShloMosaic.TcCoe
open Idealize.ShloMosaic.StableHlo

variable {F : FTy → Type} [FloatOps F]

/-- An array of shape `s` with elements of type `e`. -/
abbrev Arr (F : FTy → Type) (s : Shape) (e : EltTy) : Type := (⟨s, e⟩ : BufTy).Contents (Elt F)

/-- One value everywhere on the lanes of every image. -/
abbrev lanes (w : BitVec 32) : Arr F S8x20000 .f32 := broadcastInDim S8x20000 ![] bcast_S_S8x20000 (constant S_ .f32 w)
/-- The suppressed value on every lane, as the reference's selects spell it. -/
abbrev negLanes : Arr F S8x20000 .f32 :=
  broadcastInDim S8x20000 ![1] bcast_S20000_S8x20000_1 (broadcastInDim S20000 ![] bcast_S_S20000 (id (constant S_ .f32 0xCE6E6B28#32)))
/-- One value per image, on all the lanes of the image. -/
abbrev overLanes {e : EltTy} (x : Arr F S8 e) : Arr F S8x20000 e :=
  broadcastInDim S8x20000 ![0, 1] bcast_S8x1_S8x20000_0_1 (broadcastInDim S8x1 ![0] bcast_S8_S8x1_0 x)

/-! ## The arrays at the loop's entry -/

/-- The class of every box. -/
def classes (sc : Arr F S8x20000x91 .f32) : Arr F S8x20000 .i32 := fun j =>
  (Host.argReduce reducer_argmax_f32_i32 sc (iotaInDim S8x20000x91 32 2) (constant S_ .f32 0xFF800000#32) (constantI S_ 32 0#32)
    reducesTo_S8x20000x91_S8x20000_d2 h_S_ j).2

/-- The class score of every box. -/
def tops (sc : Arr F S8x20000x91 .f32) : Arr F S8x20000 .f32 :=
  Host.reduce FloatOps.maximumf sc (constant S_ .f32 0xFF800000#32) reducesTo_S8x20000x91_S8x20000_d2 h_S_

/-- The live scores at the loop's entry. -/
def live0 (sc : Arr F S8x20000x91 .f32) : Arr F S8x20000 .f32 :=
  select (cmpf .oge (tops sc) (lanes 0x3D4CCCCD#32)) (tops sc) negLanes

/-! ## One trip -/

/-- The pick of every image. -/
def pick (live : Arr F S8x20000 .f32) : Arr F S8 .i32 := fun j =>
  (Host.argReduce reducer_argmax_f32_i32 live (iotaInDim S8x20000 32 1) (constant S_ .f32 0xFF800000#32) (constantI S_ 32 0#32)
    reducesTo_S8x20000_S8_d1 h_S_ j).2

/-- The pick as the index array that the gathers take. -/
def pickIx (live : Arr F S8x20000 .f32) : Arr F S8x1x1 .i32 :=
  let p : Arr F S8x1 .i32 := broadcastInDim S8x1 ![0] bcast_S8_S8x1_0 (pick live)
  broadcastInDim S8x1x1 ![0, 1] bcast_S8x1_S8x1x1_0_1
    (select (cmpi .slt p (broadcastInDim S8x1 ![] bcast_S_S8x1 (constantI S_ 32 0#32)))
      (addi p (broadcastInDim S8x1 ![] bcast_S_S8x1 (constantI S_ 32 20000#32))) p)

/-- The score of the pick. -/
def best (live : Arr F S8x20000 .f32) : Arr F S8 .f32 :=
  shapeCast S8 (Host.gather gather_S8x20000_S8x1x1_S8x1_n_1_0_0_1_2_11 live (pickIx live)) shapeCasts_S8x1_S8

/-- Whether the pick is valid. -/
def valid (live : Arr F S8x20000 .f32) : Arr F S8 .i1 :=
  cmpf .ogt (best live) (broadcastInDim S8 ![] bcast_S_S8 (constant S_ .f32 0xCDEE6B28#32))

/-- The box of the pick. -/
def box (bx : Arr F S8x20000x4 .f32) (live : Arr F S8x20000 .f32) : Arr F S8x4 .f32 :=
  shapeCast S8x4 (Host.gather gather_S8x20000x4_S8x1x1_S8x1x4_2_1_0_0_1_2_114 bx (pickIx live)) shapeCasts_S8x1x4_S8x4

/-- The first coordinate of the pick's box, and so on. -/
def b0 (b : Arr F S8x4 .f32) : Arr F S8 .f32 := shapeCast S8 (extractStridedSlice S8x1 ![0, 0] b slices_S8x4_S8x1_0_0) shapeCasts_S8x1_S8
/-- The second coordinate, -/
def b1 (b : Arr F S8x4 .f32) : Arr F S8 .f32 := shapeCast S8 (extractStridedSlice S8x1 ![0, 1] b slices_S8x4_S8x1_0_1) shapeCasts_S8x1_S8
/-- the third -/
def b2 (b : Arr F S8x4 .f32) : Arr F S8 .f32 := shapeCast S8 (extractStridedSlice S8x1 ![0, 2] b slices_S8x4_S8x1_0_2) shapeCasts_S8x1_S8
/-- and the fourth. -/
def b3 (b : Arr F S8x4 .f32) : Arr F S8 .f32 := shapeCast S8 (extractStridedSlice S8x1 ![0, 3] b slices_S8x4_S8x1_0_3) shapeCasts_S8x1_S8
/-- The first coordinate of every box, and so on. -/
def c0 (bx : Arr F S8x20000x4 .f32) : Arr F S8x20000 .f32 :=
  shapeCast S8x20000 (extractStridedSlice S8x20000x1 ![0, 0, 0] bx slices_S8x20000x4_S8x20000x1_0_0_0) shapeCasts_S8x20000x1_S8x20000
/-- The second coordinate, -/
def c1 (bx : Arr F S8x20000x4 .f32) : Arr F S8x20000 .f32 :=
  shapeCast S8x20000 (extractStridedSlice S8x20000x1 ![0, 0, 1] bx slices_S8x20000x4_S8x20000x1_0_0_1) shapeCasts_S8x20000x1_S8x20000
/-- the third -/
def c2 (bx : Arr F S8x20000x4 .f32) : Arr F S8x20000 .f32 :=
  shapeCast S8x20000 (extractStridedSlice S8x20000x1 ![0, 0, 2] bx slices_S8x20000x4_S8x20000x1_0_0_2) shapeCasts_S8x20000x1_S8x20000
/-- and the fourth. -/
def c3 (bx : Arr F S8x20000x4 .f32) : Arr F S8x20000 .f32 :=
  shapeCast S8x20000 (extractStridedSlice S8x20000x1 ![0, 0, 3] bx slices_S8x20000x4_S8x20000x1_0_0_3) shapeCasts_S8x20000x1_S8x20000

/-- The area of the overlap of the box `b` with every box. -/
def inter (bx : Arr F S8x20000x4 .f32) (b : Arr F S8x4 .f32) : Arr F S8x20000 .f32 :=
  mulf (maximumf (subf (minimumf (overLanes (b2 b)) (c2 bx)) (maximumf (overLanes (b0 b)) (c0 bx))) (lanes 0x00000000#32))
    (maximumf (subf (minimumf (overLanes (b3 b)) (c3 bx)) (maximumf (overLanes (b1 b)) (c1 bx))) (lanes 0x00000000#32))

/-- The overlap of the box `b` with every box, relative to the union. -/
def iou (bx : Arr F S8x20000x4 .f32) (b : Arr F S8x4 .f32) : Arr F S8x20000 .f32 :=
  Host.divf (inter bx b)
    (addf (subf (addf (overLanes (mulf (subf (b2 b) (b0 b)) (subf (b3 b) (b1 b))))
        (mulf (subf (c2 bx) (c0 bx)) (subf (c3 bx) (c1 bx)))) (inter bx b)) (lanes 0x322BCC77#32))

/-- The live scores after the trip. -/
def newLive (bx : Arr F S8x20000x4 .f32) (live : Arr F S8x20000 .f32) : Arr F S8x20000 .f32 :=
  select (cmpi .eq (broadcastInDim S8x20000 ![0, 1] bcast_S1x20000_S8x20000_0_1
        (broadcastInDim S1x20000 ![1] bcast_S20000_S1x20000_1 (iotaInDim S20000 32 0)) : Arr F S8x20000 .i32)
      (overLanes (pick live))) negLanes
    (select (cmpf .ogt (iou bx (box bx live)) (lanes 0x3F000000#32)) negLanes live)

/-- Writing one row of a table of rows, the row numbered by the counter. -/
def setRow {e : EltTy} (T : Arr F S100x8 e) (x : Arr F S8 e) (n : Arr F S_ .i32) : Arr F S100x8 e :=
  Host.dynamicUpdateSlice T (broadcastInDim S1x8 ![1] bcast_S8_S1x8_1 x)
    (fun k => (((![n, constantI S_ 32 0#32] : Fin 2 → Arr F S_ .i32)) k (Shape.Idx.first h_S_)).toInt) updateFits_S100x8_S1x8

variable (V : Valuation τ sig (Elt F))

/-- A trip keeps the boxes. -/
theorem trip_boxes : after tripAll V (Proc.devRef .tc main_v8_0) = V (Proc.devRef .tc main_v8_0) := by after_reads_simp
/-- A trip keeps the first argument. -/
theorem trip_arg0 : after tripAll V (Proc.devRef .tc main_arg0) = V (Proc.devRef .tc main_arg0) := by after_reads_simp
/-- A trip keeps the second argument. -/
theorem trip_arg1 : after tripAll V (Proc.devRef .tc main_arg1) = V (Proc.devRef .tc main_arg1) := by after_reads_simp
/-- A trip keeps the classes. -/
theorem trip_classes : after tripAll V (Proc.devRef .tc main_v1) = V (Proc.devRef .tc main_v1) := by after_reads_simp
/-- A trip writes its picks into the row of its counter. -/
theorem trip_idx : after tripAll V (Proc.devRef .tc main_v8_3)
    = setRow (V (Proc.devRef .tc main_v8_3)) (pick (V (Proc.devRef .tc main_v8_2))) (V (Proc.devRef .tc main_v8_1)) := by
  after_reads_simp [binaryIndexed_result_read, indexContents_tref_cons, indexContents_tref_empty]; rfl
/-- A trip writes its picks' scores into the row of its counter. -/
theorem trip_best : after tripAll V (Proc.devRef .tc main_v8_4)
    = setRow (V (Proc.devRef .tc main_v8_4)) (best (V (Proc.devRef .tc main_v8_2))) (V (Proc.devRef .tc main_v8_1)) := by
  after_reads_simp [binaryIndexed_result_read, indexContents_tref_cons, indexContents_tref_empty]; rfl
/-- A trip writes whether its picks are valid into the row of its counter. -/
theorem trip_valid : after tripAll V (Proc.devRef .tc main_v8_5)
    = setRow (V (Proc.devRef .tc main_v8_5)) (valid (V (Proc.devRef .tc main_v8_2))) (V (Proc.devRef .tc main_v8_1)) := by
  after_reads_simp [binaryIndexed_result_read, indexContents_tref_cons, indexContents_tref_empty]; rfl
set_option maxRecDepth 200000 in
set_option maxHeartbeats 4000000 in
/-- A trip turns the live scores into the next trip's. -/
theorem trip_live : after tripAll V (Proc.devRef .tc main_v8_2)
    = newLive (V (Proc.devRef .tc main_v8_0)) (V (Proc.devRef .tc main_v8_2)) := by
  after_reads_simp
  simp only [TRef.toBuf, TRef.ofBuf, TRef.of, cast_cast, cast_eq]
  unfold newLive iou inter box pickIx pick b0 b1 b2 b3 c0 c1 c2 c3
  rfl

end Cert.RefRun
-- ==== Proof.RefOut.lean ====
/- The reference's results as functions of its arguments: the loop's carried arrays before every trip, and what the operations
   after the loop make of them. -/
module

public import proofs.«01_k».proof.Proof.RefTrip

@[expose] public section

set_option maxRecDepth 20000

noncomputable section

namespace Cert.RefRun

open Cert.ReferenceIdeal Cert.ReferenceIdeal.Gen
open Idealize.ShloMosaic Idealize.ShloMosaic.TcCoe
open Idealize.ShloMosaic.StableHlo

variable {F : FTy → Type} [FloatOps F]

/-! ## The results -/

variable (V : Valuation τ sig (Elt F))

/-- The number of valid trips of every image. -/
def count (va : Arr F S100x8 .i1) : Arr F S8 .i32 :=
  Host.reduce IntOp.addi ((extui 32 · natLt_1_32 : Arr F S100x8 .i1 → Arr F S100x8 .i32) va) (constantI S_ 32 0#32) reducesTo_S100x8_S8_d0 h_S_

/-- Whether a place of the output is filled: its number is below the image's number of valid trips. -/
def filled (va : Arr F S100x8 .i1) : Arr F S8x100 .i1 :=
  cmpi .slt (broadcastInDim S8x100 ![0, 1] bcast_S1x100_S8x100_0_1 (broadcastInDim S1x100 ![1] bcast_S100_S1x100_1 (iotaInDim S100 32 0)) : Arr F S8x100 .i32)
    (broadcastInDim S8x100 ![0, 1] bcast_S8x1_S8x100_0_1 (broadcastInDim S8x1 ![0] bcast_S8_S8x1_0 (count va)))

/-- The picks as the index array that the gathers of the results take. -/
def takeIx (ix : Arr F S100x8 .i32) : Arr F S8x100x1 .i32 :=
  broadcastInDim S8x100x1 ![0, 1] bcast_S8x100_S8x100x1_0_1 (transpose S8x100 [1, 0]
    (select (cmpi .slt ix (broadcastInDim S100x8 ![] bcast_S_S100x8 (constantI S_ 32 0#32)))
      (addi ix (broadcastInDim S100x8 ![] bcast_S_S100x8 (constantI S_ 32 20000#32))) ix) transposes_S100x8_S8x100_1_0)

/-- Whether an index lies inside the arrays. -/
def inside (ix : Arr F S100x8 .i32) : Arr F S8x100 .i1 :=
  Host.reduce IntOp.andi (andi (cmpi .sge (takeIx ix) (broadcastInDim S8x100x1 ![] bcast_S_S8x100x1 (constantI S_ 32 0#32)))
      (cmpi .sle (takeIx ix) (broadcastInDim S8x100x1 ![0, 1, 2] bcast_S1x1x1_S8x100x1_0_1_2
        (broadcastInDim S1x1x1 ![2] bcast_S1_S1x1x1_2 (constantI S1 32 19999#32)))))
    (constantI S_ 1 1#1) reducesTo_S8x100x1_S8x100_d2 h_S_

/-- The boxes returned. -/
def outBoxes (bx : Arr F S8x20000x4 .f32) (ix : Arr F S100x8 .i32) (va : Arr F S100x8 .i1) : Arr F S8x100x4 .f32 :=
  select (broadcastInDim S8x100x4 ![0, 1, 2] bcast_S8x100x1_S8x100x4_0_1_2 (broadcastInDim S8x100x1 ![0, 1] bcast_S8x100_S8x100x1_0_1 (filled va)))
    (select (broadcastInDim S8x100x4 ![0, 1] bcast_S8x100_S8x100x4_0_1 (inside ix))
      (Host.gather gather_S8x20000x4_S8x100x1_S8x100x4_2_1_0_0_1_2_114 bx (takeIx ix))
      (broadcastInDim S8x100x4 ![] bcast_S_S8x100x4 (constant S_ .f32 0x7FC00000#32)))
    (broadcastInDim S8x100x4 ![1, 2] bcast_S100x4_S8x100x4_1_2 (broadcastInDim S100x4 ![] bcast_S_S100x4 (constant S_ .f32 0xBF800000#32)))

/-- The classes returned. -/
def outClasses (cl : Arr F S8x20000 .i32) (ix : Arr F S100x8 .i32) (va : Arr F S100x8 .i1) : Arr F S8x100 .i32 :=
  select (filled va)
    (select (inside ix) (Host.gather gather_S8x20000_S8x100x1_S8x100_n_1_0_0_1_2_11 cl (takeIx ix))
      (broadcastInDim S8x100 ![] bcast_S_S8x100 (constantI S_ 32 2147483648#32)))
    (broadcastInDim S8x100 ![1] bcast_S100_S8x100_1 (broadcastInDim S100 ![] bcast_S_S100 (constantI S_ 32 4294967295#32)))

/-- The scores returned. -/
def outScores (be : Arr F S100x8 .f32) (va : Arr F S100x8 .i1) : Arr F S8x100 .f32 :=
  select (filled va) (transpose S8x100 [1, 0] be transposes_S100x8_S8x100_1_0)
    (broadcastInDim S8x100 ![1] bcast_S100_S8x100_1 (broadcastInDim S100 ![] bcast_S_S100 (constant S_ .f32 0xBF800000#32)))

/-- The operations after the loop, the condition's first. -/
abbrev postAll : List (HloOp τ sig (Elt F)) :=
  condOps ++ (postOps0 ++ (postOps1 ++ (postOps2 ++ (postOps3 ++ (postOps4 ++ (postOps5 ++ (postOps6 ++ (postOps7 ++ postOps8))))))))

/-- The operations after the loop keep the first argument. -/
theorem post_arg0 : after postAll V (Proc.devRef .tc main_arg0) = V (Proc.devRef .tc main_arg0) := by after_reads_simp
/-- The operations after the loop keep the second argument. -/
theorem post_arg1 : after postAll V (Proc.devRef .tc main_arg1) = V (Proc.devRef .tc main_arg1) := by after_reads_simp
/-- The numbers returned. -/
theorem post_count : after postAll V (Proc.devRef .tc main_v10) = count (V (Proc.devRef .tc main_v8_5)) := by after_reads_simp; rfl
set_option maxRecDepth 200000 in
set_option maxHeartbeats 4000000 in
/-- The boxes returned. -/
theorem post_boxes : after postAll V (Proc.devRef .tc main_v19)
    = outBoxes (V (Proc.devRef .tc main_arg0)) (V (Proc.devRef .tc main_v8_3)) (V (Proc.devRef .tc main_v8_5)) := by
  after_reads_simp
  simp only [TRef.toBuf, TRef.ofBuf, TRef.of, cast_cast, cast_eq]
  unfold outBoxes inside takeIx filled count
  rfl
set_option maxRecDepth 200000 in
set_option maxHeartbeats 4000000 in
/-- The classes returned. -/
theorem post_classes : after postAll V (Proc.devRef .tc main_v21)
    = outClasses (V (Proc.devRef .tc main_v1)) (V (Proc.devRef .tc main_v8_3)) (V (Proc.devRef .tc main_v8_5)) := by
  after_reads_simp
  simp only [TRef.toBuf, TRef.ofBuf, TRef.of, cast_cast, cast_eq]
  unfold outClasses inside takeIx filled count
  rfl
set_option maxRecDepth 200000 in
set_option maxHeartbeats 4000000 in
/-- The scores returned. -/
theorem post_scores : after postAll V (Proc.devRef .tc main_v22)
    = outScores (V (Proc.devRef .tc main_v8_4)) (V (Proc.devRef .tc main_v8_5)) := by
  after_reads_simp
  simp only [TRef.toBuf, TRef.ofBuf, TRef.of, cast_cast, cast_eq]
  unfold outScores filled count
  rfl

/-! ## At the loop's entry -/

/-- The operations before the loop. -/
abbrev preAll : List (HloOp τ sig (Elt F)) := preOps0 ++ (preOps1 ++ (preOps2 ++ (preOps3 ++ preOps4)))

/-- Before the loop the arguments are as launched: the boxes -/
theorem pre_arg0 : after preAll V (Proc.devRef .tc main_arg0) = V (Proc.devRef .tc main_arg0) := by after_reads_simp
/-- and the scores; -/
theorem pre_arg1 : after preAll V (Proc.devRef .tc main_arg1) = V (Proc.devRef .tc main_arg1) := by after_reads_simp
/-- the loop's boxes are the argument; -/
theorem pre_boxes : after preAll V (Proc.devRef .tc main_v8_0) = V (Proc.devRef .tc main_arg0) := by after_reads_simp <;> rfl
/-- the classes are the arguments of the largest scores; -/
theorem pre_classes : after preAll V (Proc.devRef .tc main_v1) = classes (V (Proc.devRef .tc main_arg1)) := by
  after_reads_simp
  simp only [TRef.toBuf, TRef.ofBuf, TRef.of, cast_cast, cast_eq]
  unfold classes
  rfl
/-- The live scores at the loop's entry, from the class scores and their comparison with the threshold. -/
theorem mid_live (h : V (Proc.devRef .tc main_cst_1) = (constant S_ .f32 0xCE6E6B28#32 : Arr F S_ .f32)) : after (preOps3 ++ preOps4) V (Proc.devRef .tc main_v8_2)
    = select (V (Proc.devRef .tc main_v3)) (V (Proc.devRef .tc main_v0)) negLanes := by
  after_reads_simp
  simp only [TRef.toBuf, TRef.ofBuf, TRef.of, cast_cast, cast_eq]
  rw [h]
  rfl
/-- The suppressed value is in its buffer. -/
theorem mid_cst : after (preOps1 ++ preOps2) V (Proc.devRef .tc main_cst_1) = (constant S_ .f32 0xCE6E6B28#32 : Arr F S_ .f32) := by
  after_reads_simp
/-- The largest scores are in theirs, -/
theorem pre_tops : after (preOps0 ++ (preOps1 ++ preOps2)) V (Proc.devRef .tc main_v0) = tops (V (Proc.devRef .tc main_arg1)) := by
  after_reads_simp <;> rfl
/-- and which of them reach the threshold. -/
theorem mid_ge : after (preOps1 ++ preOps2) V (Proc.devRef .tc main_v3)
    = cmpf .oge (V (Proc.devRef .tc main_v0)) (lanes 0x3D4CCCCD#32) := by
  after_reads_simp
/-- The largest scores are the first operation's result. -/
theorem first_tops : after preOps0 V (Proc.devRef .tc main_v0) = tops (V (Proc.devRef .tc main_arg1)) := by
  after_reads_simp
  unfold tops
  rfl
/-- The loop's live scores are those of the entry; -/
theorem pre_live : after preAll V (Proc.devRef .tc main_v8_2) = live0 (V (Proc.devRef .tc main_arg1)) := by
  have e : after preAll V = after (preOps3 ++ preOps4) (after (preOps1 ++ preOps2) (after preOps0 V)) := by
    simp only [preAll, after_append]
  have e' : after (preOps1 ++ preOps2) (after preOps0 V) = after (preOps0 ++ (preOps1 ++ preOps2)) V := by
    simp only [after_append]
  rw [e, mid_live _ (mid_cst _), mid_ge, first_tops, e', pre_tops]
  unfold live0
  rfl
/-- its tables are empty: of picks, -/
theorem pre_idx : after preAll V (Proc.devRef .tc main_v8_3)
    = (broadcastInDim S100x8 ![] bcast_S_S100x8 (constantI S_ 32 0#32) : Arr F S100x8 .i32) := by after_reads_simp <;> rfl
/-- of best scores -/
theorem pre_best : after preAll V (Proc.devRef .tc main_v8_4)
    = (broadcastInDim S100x8 ![] bcast_S_S100x8 (constant S_ .f32 0x00000000#32) : Arr F S100x8 .f32) := by after_reads_simp <;> rfl
/-- and of validity. -/
theorem pre_valid : after preAll V (Proc.devRef .tc main_v8_5)
    = (broadcastInDim S100x8 ![] bcast_S_S100x8 (constantI S_ 1 0#1) : Arr F S100x8 .i1) := by after_reads_simp <;> rfl

/-! ## The carried arrays before the `k`-th trip, and the results -/

section
variable (bx : Arr F S8x20000x4 .f32) (sc : Arr F S8x20000x91 .f32)

/-- The live scores before the `k`-th trip. -/
def liveAt : ℕ → Arr F S8x20000 .f32
  | 0 => live0 sc
  | k + 1 => newLive bx (liveAt k)

/-- A table of a row per trip, `z` at first, after `k` trips whose rows are `f`. -/
def tableAt {e : EltTy} (z : Arr F S100x8 e) (f : ℕ → Arr F S8 e) : ℕ → Arr F S100x8 e
  | 0 => z
  | k + 1 => setRow (tableAt z f k) (f k) (fun _ => Scf.iv 0#32 1#32 k : Arr F S_ .i32)

/-- The table of picks after `k` trips. -/
abbrev idxAt (k : ℕ) : Arr F S100x8 .i32 :=
  tableAt (broadcastInDim S100x8 ![] bcast_S_S100x8 (constantI S_ 32 0#32) : Arr F S100x8 .i32) (fun j => pick (liveAt bx sc j)) k
/-- The table of scores after `k` trips. -/
abbrev bestAt (k : ℕ) : Arr F S100x8 .f32 :=
  tableAt (broadcastInDim S100x8 ![] bcast_S_S100x8 (constant S_ .f32 0x00000000#32) : Arr F S100x8 .f32) (fun j => best (liveAt bx sc j)) k
/-- The table of valid marks after `k` trips. -/
abbrev validAt (k : ℕ) : Arr F S100x8 .i1 :=
  tableAt (broadcastInDim S100x8 ![] bcast_S_S100x8 (constantI S_ 1 0#1) : Arr F S100x8 .i1) (fun j => valid (liveAt bx sc j)) k
end

variable (m : (ℓ : Loc nD τ sig) → Buf (Elt F) ℓ) (c : Dev nD)

/-- The first argument. -/
abbrev argBoxes : Arr F S8x20000x4 .f32 := m ((c.tc : Thread nD τ).loc main_arg0)
/-- The second argument. -/
abbrev argScores : Arr F S8x20000x91 .f32 := m ((c.tc : Thread nD τ).loc main_arg1)

/-- The loop is entered with what the operations before it leave, -/
theorem entry_eq : atK m 0 c = after preAll (StableHlo.launchContents m c) := by
  simp only [atK, atTrip, entryContents, preI, afterL_cons, afterL_nil, preAll, after_append]

/-- and the run ends with what those after it make of its exit. -/
theorem final_eq : final m c = after postAll (atK m 100 c) := by
  simp only [final, finalContents, postI, afterL_cons, afterL_nil, postAll, after_append, atK]

/-- After every trip the boxes are as launched, -/
theorem atK_arg0 : ∀ k, atK m k c (Proc.devRef .tc main_arg0) = argBoxes m c
  | 0 => by rw [entry_eq, pre_arg0]
  | k + 1 => by rw [atK_succ, trip_arg0, atK_arg0 k]

/-- and the scores; -/
theorem atK_arg1 : ∀ k, atK m k c (Proc.devRef .tc main_arg1) = argScores m c
  | 0 => by rw [entry_eq, pre_arg1]
  | k + 1 => by rw [atK_succ, trip_arg1, atK_arg1 k]

/-- the classes stay; -/
theorem atK_classes : ∀ k, atK m k c (Proc.devRef .tc main_v1) = classes (argScores m c)
  | 0 => by rw [entry_eq, pre_classes]
  | k + 1 => by rw [atK_succ, trip_classes, atK_classes k]

/-- the loop's boxes stay; -/
theorem atK_boxes : ∀ k, atK m k c (Proc.devRef .tc main_v8_0) = argBoxes m c
  | 0 => by rw [entry_eq, pre_boxes]
  | k + 1 => by rw [atK_succ, trip_boxes, atK_boxes k]

/-- the live scores are those of as many trips; -/
theorem atK_live : ∀ k, atK m k c (Proc.devRef .tc main_v8_2) = liveAt (argBoxes m c) (argScores m c) k
  | 0 => by rw [entry_eq, pre_live]; rfl
  | k + 1 => by rw [atK_succ, trip_live, atK_live k, atK_boxes]; rfl

/-- the table of picks holds those of as many trips, -/
theorem atK_idx : ∀ k, atK m k c (Proc.devRef .tc main_v8_3) = idxAt (argBoxes m c) (argScores m c) k
  | 0 => by rw [entry_eq, pre_idx]; rfl
  | k + 1 => by rw [atK_succ, trip_idx, atK_idx k, atK_live, atK_ctr]; rfl

/-- the table of best scores too, -/
theorem atK_best : ∀ k, atK m k c (Proc.devRef .tc main_v8_4) = bestAt (argBoxes m c) (argScores m c) k
  | 0 => by rw [entry_eq, pre_best]; rfl
  | k + 1 => by rw [atK_succ, trip_best, atK_best k, atK_live, atK_ctr]; rfl

/-- and that of validity. -/
theorem atK_valid : ∀ k, atK m k c (Proc.devRef .tc main_v8_5) = validAt (argBoxes m c) (argScores m c) k
  | 0 => by rw [entry_eq, pre_valid]; rfl
  | k + 1 => by rw [atK_succ, trip_valid, atK_valid k, atK_live, atK_ctr]; rfl

/-- Every fair execution of the reference ends, its results the named functions of its arguments, its arguments as they were
    and every semaphore at zero. -/
theorem run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v22)
          = outScores (bestAt (argBoxes m c) (argScores m c) 100) (validAt (argBoxes m c) (argScores m c) 100)
      ∧ r.2.mem ((c.tc : Thread nD τ).loc main_v19)
          = outBoxes (argBoxes m c) (idxAt (argBoxes m c) (argScores m c) 100) (validAt (argBoxes m c) (argScores m c) 100)
      ∧ r.2.mem ((c.tc : Thread nD τ).loc main_v21)
          = outClasses (classes (argScores m c)) (idxAt (argBoxes m c) (argScores m c) 100) (validAt (argBoxes m c) (argScores m c) 100)
      ∧ r.2.mem ((c.tc : Thread nD τ).loc main_v10) = count (validAt (argBoxes m c) (argScores m c) 100)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine (θ_run _ _ _).mono (fun r h => ?_) (run_fold m ρ)
  refine ⟨fun c => ⟨?_, ?_, ?_, ?_, ?_, ?_⟩, Idealize.ShloMosaic.sem_eq_zero_of_no_sems (by decide) r.2⟩
  · rw [h c main_v22 rfl, final_eq, post_scores, atK_best, atK_valid]
  · rw [h c main_v19 rfl, final_eq, post_boxes, atK_arg0, atK_idx, atK_valid]
  · rw [h c main_v21 rfl, final_eq, post_classes, atK_classes, atK_idx, atK_valid]
  · rw [h c main_v10 rfl, final_eq, post_count, atK_valid]
  · rw [h c main_arg0 rfl, final_eq, post_arg0, atK_arg0]
  · rw [h c main_arg1 rfl, final_eq, post_arg1, atK_arg1]

end Cert.RefRun
-- ==== Proof.First.lean ====
/- The first place where a finite family of extended reals is largest, and the folds that find it: a maximum fold, a
   minimum fold over the places that hold the maximum, and a fold of (value, place) pairs. -/
module

public import Idealize.ShloMosaic.Lib.Pointwise

@[expose] public section

noncomputable section

namespace Cert.First

open Idealize.ShloMosaic

/-- `k` is the first place where `x` is largest. -/
def IsFirst {n : ℕ} (x : Fin n → EReal) (k : Fin n) : Prop := ∀ l, x l ≤ x k ∧ (x l = x k → k ≤ l)

/-- There is one such place at most. -/
theorem IsFirst.unique {n : ℕ} {x : Fin n → EReal} {k k' : Fin n} (h : IsFirst x k) (h' : IsFirst x k') : k = k' := by
  have e : x k' = x k := le_antisymm (h k').1 (h' k).1
  exact le_antisymm ((h k').2 e) ((h' k).2 e.symm)

/-- A nonempty family has one. -/
theorem exists_isFirst {n : ℕ} [NeZero n] (x : Fin n → EReal) : ∃ k, IsFirst x k := by
  classical
  obtain ⟨m, -, hm⟩ := Finset.exists_max_image Finset.univ x ⟨0, Finset.mem_univ _⟩
  have hne : (Finset.univ.filter fun k => x k = x m).Nonempty := ⟨m, by simp⟩
  have hk := Finset.min'_mem _ hne
  set k := (Finset.univ.filter fun k => x k = x m).min' hne with hkdef
  have ek : x k = x m := (Finset.mem_filter.1 hk).2
  refine ⟨k, fun l => ⟨ek ▸ hm l (Finset.mem_univ _), fun e => Finset.min'_le _ _ ?_⟩⟩
  simp [e, ek]

/-- The first place where `x` is largest. -/
def first {n : ℕ} [NeZero n] (x : Fin n → EReal) : Fin n := (exists_isFirst x).choose

/-- The chosen place is the first that holds the largest value. -/
theorem first_isFirst {n : ℕ} [NeZero n] (x : Fin n → EReal) : IsFirst x (first x) := (exists_isFirst x).choose_spec

/-- No element is above the one at the first largest place. -/
theorem le_first {n : ℕ} [NeZero n] (x : Fin n → EReal) (l : Fin n) : x l ≤ x (first x) := (first_isFirst x l).1

/-- A place that is first and largest is the first largest place. -/
theorem first_eq {n : ℕ} [NeZero n] {x : Fin n → EReal} {k : Fin n} (h : IsFirst x k) : first x = k :=
  (first_isFirst x).unique h

/-- The maximum fold from the least value is the value at the first largest place. -/
theorem fold_max {n : ℕ} [NeZero n] (x : Fin n → EReal) : Finset.univ.fold max ⊥ x = x (first x) :=
  le_antisymm ((Finset.fold_max_le _).2 ⟨bot_le, fun l _ => le_first x l⟩)
    ((Finset.le_fold_max _).2 (Or.inr ⟨_, Finset.mem_univ _, le_rfl⟩))

/-- The signed minimum of two words, as integers. -/
theorem toInt_minsi (a b : BitVec 32) : (IntOp.minsi a b).toInt = min a.toInt b.toInt := by
  unfold IntOp.minsi
  by_cases h : a.toInt < b.toInt
  · rw [if_pos (by simpa [BitVec.slt] using h)]; omega
  · rw [if_neg (by simpa [BitVec.slt] using h)]; omega

/-- A small number as a signed word is itself. -/
theorem toInt_ofNat {k : ℕ} (h : k < 2147483648) : (BitVec.ofNat 32 k).toInt = k := by
  rw [BitVec.toInt_eq_toNat_of_lt (by rw [BitVec.toNat_ofNat]; omega), BitVec.toNat_ofNat]
  omega

/-- The minimum fold over the places that hold the maximum, every other place at a word past them, is the first of them. -/
theorem fold_first {n : ℕ} [NeZero n] (x : Fin n → EReal) (c : BitVec 32) (hn : n < 2147483647) (hc : (n : ℤ) ≤ c.toInt) :
    Finset.univ.fold IntOp.minsi 2147483647#32 (fun k : Fin n => if x k = x (first x) then BitVec.ofNat 32 k.val else c)
      = BitVec.ofNat 32 (first x).val := by
  have hk := (first x).isLt
  apply BitVec.eq_of_toInt_eq
  rw [← Finset.fold_hom (m := BitVec.toInt) (op' := (min : ℤ → ℤ → ℤ)) toInt_minsi, toInt_ofNat (k := (first x).val) (by omega)]
  apply le_antisymm
  · refine (Finset.fold_min_le _).2 (Or.inr ⟨first x, Finset.mem_univ _, ?_⟩)
    rw [if_pos rfl, toInt_ofNat (k := (first x).val) (by omega)]
  · refine (Finset.le_fold_min _).2 ⟨?_, fun l _ => ?_⟩
    · have : (2147483647#32 : BitVec 32).toInt = 2147483647 := by decide
      omega
    · by_cases e : x l = x (first x)
      · rw [if_pos e, toInt_ofNat (k := l.val) (by have := l.isLt; omega)]
        exact_mod_cast (first_isFirst x l).2 e
      · rw [if_neg e]; omega

/-- A sum with one entry other than zero is that entry. -/
theorem sum_one {n : ℕ} (p : Fin n) (v : Fin n → EReal) : ∑ k, (if k = p then v k else 0) = v p := by
  rw [Finset.sum_ite_eq' Finset.univ p v, if_pos (Finset.mem_univ _)]

/-- The same for words. -/
theorem fold_one {n : ℕ} (p : Fin n) (v : Fin n → BitVec 32) :
    Finset.univ.fold IntOp.addi 0#32 (fun k => if k = p then v k else 0#32) = v p := by
  have e : ∀ s : Finset (Fin n), p ∉ s → s.fold IntOp.addi 0#32 (fun k => if k = p then v k else 0#32) = 0#32 := by
    intro s
    induction s using Finset.cons_induction with
    | empty => intro _; rfl
    | cons a s ha ih =>
      intro hp
      rw [Finset.mem_cons, not_or] at hp
      rw [Finset.fold_cons, ih hp.2, if_neg (fun h => hp.1 h.symm)]
      rfl
  rw [← Finset.insert_erase (Finset.mem_univ p), Finset.fold_insert (Finset.notMem_erase _ _), e _ (Finset.notMem_erase _ _), if_pos rfl]
  exact BitVec.add_zero _

/-! ### A fold of (value, place) pairs -/

/-- The pair `r` comes before the pair `q`: a larger value, or the same and a place no later. -/
def Before (r q : EReal × BitVec 32) : Prop := q.1 < r.1 ∨ (q.1 = r.1 ∧ r.2.toInt ≤ q.2.toInt)

/-- A pair comes before itself. -/
theorem Before.refl (r : EReal × BitVec 32) : Before r r := Or.inr ⟨rfl, le_rfl⟩

/-- Coming before is transitive. -/
theorem Before.trans {a b c : EReal × BitVec 32} (h : Before a b) (h' : Before b c) : Before a c := by
  rcases h with h | ⟨h, h2⟩ <;> rcases h' with h' | ⟨h', h2'⟩
  · exact Or.inl (h'.trans h)
  · exact Or.inl (h'.trans_lt h)
  · exact Or.inl (h'.trans_eq h)
  · exact Or.inr ⟨h'.trans h, h2.trans h2'⟩

/-- A fold whose step picks one of its two pairs, before both, ends at a pair of the list or the initial one, before all of
    them. -/
theorem foldl_before (f : EReal × BitVec 32 → EReal × BitVec 32 → EReal × BitVec 32)
    (hf : ∀ a b, (f a b = a ∨ f a b = b) ∧ Before (f a b) a ∧ Before (f a b) b) :
    ∀ (L : List (EReal × BitVec 32)) (a : EReal × BitVec 32),
      (L.foldl f a = a ∨ L.foldl f a ∈ L) ∧ Before (L.foldl f a) a ∧ ∀ q ∈ L, Before (L.foldl f a) q
  | [], a => ⟨Or.inl rfl, Before.refl a, fun q hq => absurd hq List.not_mem_nil⟩
  | b :: L, a => by
    obtain ⟨h1, h2, h3⟩ := foldl_before f hf L (f a b)
    obtain ⟨g1, g2, g3⟩ := hf a b
    rw [List.foldl_cons]
    refine ⟨?_, h2.trans g2, fun q hq => ?_⟩
    · rcases h1 with h1 | h1
      · rcases g1 with g1 | g1
        · exact Or.inl (h1.trans g1)
        · exact Or.inr (by rw [h1, g1]; exact List.mem_cons_self)
      · exact Or.inr (List.mem_cons_of_mem _ h1)
    · rcases List.mem_cons.1 hq with rfl | hq
      · exact h2.trans g3
      · exact h3 q hq

/-- The place of a pair that is before every (value, place) pair of `x`, and is one of them or the pair of the least value
    and place 0, is the first largest place. -/
theorem place_eq {n : ℕ} [NeZero n] (x : Fin n → EReal) (hn : n < 2147483647) (r : EReal × BitVec 32)
    (hmem : r = (⊥, 0#32) ∨ ∃ k : Fin n, r = (x k, BitVec.ofNat 32 k.val)) (h : ∀ k : Fin n, Before r (x k, BitVec.ofNat 32 k.val)) :
    r.2 = BitVec.ofNat 32 (first x).val := by
  have key : ∀ k : Fin n, r.2 = BitVec.ofNat 32 k.val → (∀ l, x l ≤ x k) → r.1 = x k → r.2 = BitVec.ofNat 32 (first x).val := by
    intro k hk hmax hv
    have hf : IsFirst x k := fun l => ⟨hmax l, fun e => by
      rcases h l with hl | ⟨_, hl⟩
      · rw [hv] at hl; exact absurd (e ▸ hl) (lt_irrefl _)
      · have h1 := k.isLt
        have h2 := l.isLt
        simp only [hk, toInt_ofNat (show k.val < 2147483648 by omega), toInt_ofNat (show l.val < 2147483648 by omega)] at hl
        exact_mod_cast hl⟩
    rw [hk, first_eq hf]
  have hle : ∀ l, x l ≤ r.1 := fun l => by
    rcases h l with hl | ⟨hl, _⟩
    · exact hl.le
    · exact hl.le
  rcases hmem with rfl | ⟨k, rfl⟩
  · have hb : ∀ l, x l = ⊥ := fun l => le_bot_iff.1 (hle l)
    refine key 0 ?_ (fun l => by rw [hb, hb]) (by rw [hb])
    rw [show ((0 : Fin n) : ℕ) = 0 from rfl]
  · exact key k rfl hle rfl

end Cert.First
-- ==== Proof.Spec.lean ====
/- Hard non-maximum suppression of one image over the extended reals: what both programs compute. -/
module

public import proofs.«01_k».proof.Proof.First
public import Idealize.ShloMosaic.Lib.IdealHost

@[expose] public section

noncomputable section

namespace Cert.Spec

open Idealize.ShloMosaic Cert.First

/-- The score threshold. -/
abbrev low : EReal := Ideal.ofBits .f32 0x3D4CCCCD#32
/-- The suppressed value. -/
abbrev neg : EReal := Ideal.ofBits .f32 0xCE6E6B28#32
/-- Half of it: a score above it is not suppressed. -/
abbrev negHalf : EReal := Ideal.ofBits .f32 0xCDEE6B28#32
/-- The overlap threshold. -/
abbrev half : EReal := Ideal.ofBits .f32 0x3F000000#32

/-- The area of the overlap of two boxes. -/
def inter (b c : Fin 4 → EReal) : EReal :=
  max (min (b 2) (c 2) - max (b 0) (c 0)) 0 * max (min (b 3) (c 3) - max (b 1) (c 1)) 0

/-- The overlap of two boxes relative to their union. -/
def iou (b c : Fin 4 → EReal) : EReal :=
  Ideal.div (inter b c) ((b 2 - b 0) * (b 3 - b 1) + (c 2 - c 0) * (c 3 - c 1) - inter b c + Ideal.ofBits .f32 0x322BCC77#32)

section
variable (bx : Fin 20000 → Fin 4 → EReal) (sc : Fin 20000 → Fin 91 → EReal)

/-- The class of a box: the first class of its largest score. -/
def cls (j : Fin 20000) : Fin 91 := first (sc j)
/-- The score of a box: its largest. -/
def top (j : Fin 20000) : EReal := sc j (cls sc j)

/-- The scores still live before the `k`-th trip. -/
def live : ℕ → Fin 20000 → EReal
  | 0 => fun j => if low ≤ top sc j then top sc j else neg
  | k + 1 => fun j => if j = first (live k) then neg else if half < iou (bx (first (live k))) (bx j) then neg else live k j

/-- The box that the `k`-th trip picks. -/
def pick (k : ℕ) : Fin 20000 := first (live bx sc k)
/-- The score of the `k`-th pick. -/
def best (k : ℕ) : EReal := live bx sc k (pick bx sc k)
/-- Whether the `k`-th pick is a box that was not suppressed. -/
def Ok (k : ℕ) : Prop := negHalf < best bx sc k

/-- The live scores before the first trip, -/
theorem live_zero (j : Fin 20000) : live bx sc 0 j = if low ≤ top sc j then top sc j else neg := rfl
/-- and after one more. -/
theorem live_succ (k : ℕ) (j : Fin 20000) : live bx sc (k + 1) j
    = if j = pick bx sc k then neg else if half < iou (bx (pick bx sc k)) (bx j) then neg else live bx sc k j := rfl

/-- The suppressed value is below the threshold. -/
theorem neg_le_low : neg ≤ low := by
  have h1 : neg ≤ 0 := by
    have : neg = (((-1000000000 : ℝ)) : EReal) := by
      simp [neg, Ideal.ofBits, Ideal.ieee, -EReal.coe_mul, -EReal.coe_neg]; norm_num
    rw [this]; exact EReal.coe_nonpos.mpr (by norm_num)
  have h2 : 0 ≤ low := by
    have : ∃ r : ℝ, 0 ≤ r ∧ low = (r : EReal) := by
      simp only [low, Ideal.ofBits, Ideal.ieee]
      refine ⟨_, ?_, rfl⟩
      norm_num
      rw [if_neg (by decide)]
      positivity
    obtain ⟨r, hr, e⟩ := this
    rw [e]; exact EReal.coe_nonneg.mpr hr
  exact h1.trans h2

/-- No live score is below the suppressed value. -/
theorem neg_le_live : ∀ (k : ℕ) (j : Fin 20000), neg ≤ live bx sc k j
  | 0, j => by
    rw [live_zero]
    by_cases h : low ≤ top sc j
    · rw [if_pos h]; exact neg_le_low.trans h
    · rw [if_neg h]
  | k + 1, j => by
    rw [live_succ]
    by_cases h : j = pick bx sc k
    · rw [if_pos h]
    · rw [if_neg h]
      by_cases h' : half < iou (bx (pick bx sc k)) (bx j)
      · rw [if_pos h']
      · rw [if_neg h']; exact neg_le_live k j

/-- A trip raises no score. -/
theorem live_succ_le (k : ℕ) (j : Fin 20000) : live bx sc (k + 1) j ≤ live bx sc k j := by
  rw [live_succ]
  by_cases h : j = pick bx sc k
  · rw [if_pos h]; exact neg_le_live bx sc k j
  · rw [if_neg h]
    by_cases h' : half < iou (bx (pick bx sc k)) (bx j)
    · rw [if_pos h']; exact neg_le_live bx sc k j
    · rw [if_neg h']

/-- After a valid pick every earlier one was valid. -/
theorem Ok.pred {k : ℕ} (h : Ok bx sc (k + 1)) : Ok bx sc k :=
  lt_of_lt_of_le h ((live_succ_le bx sc k _).trans (le_first _ _))

/-- An earlier trip of a kept one is kept. -/
theorem Ok.mono {k : ℕ} : ∀ {l : ℕ}, k ≤ l → Ok bx sc l → Ok bx sc k
  | 0, h, hl => by rw [Nat.le_zero.1 h]; exact hl
  | l + 1, h, hl => by
    rcases Nat.lt_or_ge l k with h' | h'
    · rw [show k = l + 1 by omega]; exact hl
    · exact Ok.mono h' hl.pred

open Classical in
/-- The number of valid picks among the first `n`. -/
def number : ℕ → ℕ
  | 0 => 0
  | n + 1 => number n + if Ok bx sc n then 1 else 0

/-- One more trip adds one if it is kept. -/
theorem number_succ (n : ℕ) (p : Decidable (Ok bx sc n)) : number bx sc (n + 1) = number bx sc n + if Ok bx sc n then 1 else 0 := by
  rw [number]
  congr

/-- No more are kept than there are trips. -/
theorem number_le (n : ℕ) : number bx sc n ≤ n := by
  induction n with
  | zero => exact le_rfl
  | succ n ih =>
    rw [number_succ _ _ _ (Classical.dec _)]
    split <;> omega

/-- All are, if every trip is kept. -/
theorem number_of_ok {n : ℕ} (h : ∀ k < n, Ok bx sc k) : number bx sc n = n := by
  induction n with
  | zero => rfl
  | succ n ih => rw [number_succ _ _ _ (Classical.dec _), ih (fun k hk => h k (by omega)), if_pos (h n (by omega))]

/-- The valid picks are the first ones: the `s`-th pick is valid exactly when `s` is below the number of valid picks. -/
theorem lt_number_iff {n s : ℕ} (hs : s < n) : s < number bx sc n ↔ Ok bx sc s := by
  induction n with
  | zero => omega
  | succ n ih =>
    rw [number_succ _ _ _ (Classical.dec _)]
    by_cases h : Ok bx sc n
    · rw [if_pos h, number_of_ok bx sc (fun k hk => Ok.mono bx sc hk.le h)]
      exact ⟨fun _ => Ok.mono bx sc (by omega) h, fun _ => hs⟩
    · rw [if_neg h, Nat.add_zero]
      rcases Nat.lt_or_ge s n with h' | h'
      · exact ih h'
      · have e : s = n := by omega
        subst e
        exact ⟨fun h' => absurd (number_le bx sc s) (by omega), fun h' => absurd h' h⟩
end

end Cert.Spec
-- ==== Proof.PI.Math.lean ====
/- One suppression trip of the kernel over the extended reals, read at an index. -/
module

public import proofs.«01_k».proof.Proof.PI.Body
public import proofs.«01_k».proof.Proof.Spec
public import Idealize.ShloMosaic.Lib.Pointwise
public import Idealize.ShloMosaic.Lib.WordCmp

@[expose] public section

set_option maxRecDepth 20000

noncomputable section

namespace Cert.KernelIdeal.Nms

open Cert.KernelIdeal Cert.KernelIdeal.Gen Cert.First
open Idealize.ShloMosaic Idealize.ShloMosaic.TcCoe

/-- The least value, as the maximum reductions spell it. -/
theorem bot_read : (Ideal.ofBits .f32 0xFF800000#32 : EReal) = ⊥ := by
  simp [Ideal.ofBits, Ideal.ieee]

/-- A select on a decided bit. -/
theorem select_dec {α : Type} (p : Prop) [Decidable p] (a b : α) : Scalar.select (BitVec.ofBool (decide p)) a b = if p then a else b := by
  by_cases h : p <;> simp [h, Scalar.select]

/-! ## The class reduction -/

/-- The largest score of every box of a block. -/
theorem pay3_at (v : Vec Ideal S1x2000x91 .f32) (j : Fin 2000) :
    (k0_pay3 v (ix3 0 j 0) : EReal) = v (ix3 0 j (first (fun k : Fin 91 => (v (ix3 0 j k) : EReal)))) := by
  refine Eq.trans ?_ (fold_max (fun k : Fin 91 => (v (ix3 0 j k) : EReal)))
  pointwise [k0_pay3, k0_pay2, k0_pay1]
  rw [bot_read]

/-- The first class of the largest score of every box of a block. -/
theorem pay4_at (v : Vec Ideal S1x2000x91 .f32) (j : Fin 2000) :
    k0_pay4 v (ix3 0 j 0) = BitVec.ofNat 32 (first (fun k : Fin 91 => (v (ix3 0 j k) : EReal))).val := by
  refine Eq.trans ?_ (fold_first (fun k : Fin 91 => (v (ix3 0 j k) : EReal)) 91#32 (by norm_num) (by decide))
  rw [← fold_max (fun k : Fin 91 => (v (ix3 0 j k) : EReal)), ← bot_read]
  pointwise [k0_pay4, k0_pay2, k0_pay1]

/-! ## One trip -/

variable (a : FVec Ideal S8x20480 .f32) (i : Fin 8)

/-- The lane that a trip over the live scores `a` picks in image `i`. -/
def lane : Fin 20480 := first (fun j : Fin 20480 => (a (ix2 i j) : EReal))

/-- The trip's best score is the one on the picked lane; -/
theorem best_at : (k1_pay2 a (ix2 i 0) : EReal) = a (ix2 i (lane a i)) := by
  refine Eq.trans ?_ (fold_max (fun j : Fin 20480 => (a (ix2 i j) : EReal)))
  pointwise [k1_pay2]
  rw [bot_read]

/-- it is valid where that is above half the suppressed value; -/
theorem valid_at : k1_pay3 a (ix2 i 0) = BitVec.ofBool (decide (Spec.negHalf < (a (ix2 i (lane a i)) : EReal))) := by
  pointwise [k1_pay3]
  rw [best_at]

/-- the one-hot row marks the picked lane alone. -/
theorem hot_at (j : Fin 20480) : k1_pay4 laneIx a (ix2 i j) = BitVec.ofBool (decide (j = lane a i)) := by
  have e : Finset.univ.fold IntOp.minsi 2147483647#32 (fun k : Fin 20480 => if (a (ix2 i k) : EReal) = k1_pay2 a (ix2 i 0) then BitVec.ofNat 32 k.val else 20480#32)
      = BitVec.ofNat 32 (lane a i).val := by
    rw [best_at]
    exact fold_first (fun j : Fin 20480 => (a (ix2 i j) : EReal)) 20480#32 (by norm_num) (by decide)
  pointwise [k1_pay4]
  rw [e]
  have := j.isLt; have := (lane a i).isLt
  simp (disch := omega) only [hlo_ix, Fin.ext_iff]

/-- Adding up a row with every lane but the picked one at zero takes the row's element there. -/
theorem take_at (v : FVec Ideal S8x20480 .f32) : (k1_pay5 v laneIx a (ix2 i 0) : EReal) = v (ix2 i (lane a i)) := by
  refine Eq.trans ?_ (sum_one (lane a i) (fun j : Fin 20480 => (v (ix2 i j) : EReal)))
  pointwise [k1_pay5]
  simp only [hot_at, select_dec]

/-- The same for the classes. -/
theorem takeClass_at (v : IVec S8x20480 32) : k1_pay9 (F := Ideal) v laneIx a (ix2 i 0) = v (ix2 i (lane a i)) := by
  refine Eq.trans ?_ (fold_one (lane a i) (fun j : Fin 20480 => v (ix2 i j)))
  pointwise [k1_pay9]
  simp only [hot_at, select_dec]

/-- The elements of four rows at a lane. -/
abbrev four (y1 x1 y2 x2 : FVec Ideal S8x20480 .f32) (i : Fin 8) (j : Fin 20480) : Fin 4 → EReal :=
  ![y1 (ix2 i j), x1 (ix2 i j), y2 (ix2 i j), x2 (ix2 i j)]

/-- The live scores after a trip. -/
def newLive (y1 x1 y2 x2 a : FVec Ideal S8x20480 .f32) : FVec Ideal S8x20480 .f32 :=
  k1_pay23 y1 x1 y2 x2 a (k1_pay4 laneIx a)
    (k1_pay10 (k1_pay15 y1) (k1_pay16 x1) (k1_pay17 y2) (k1_pay18 x2) laneIx a)
    (k1_pay11 (k1_pay16 x1) laneIx a) (k1_pay12 (k1_pay18 x2) laneIx a)
    (k1_pay13 (k1_pay15 y1) (k1_pay17 y2) laneIx a) (Scalar.ofBits .f32 0x00000000#32)

/-- They are the earlier ones, the pick and what overlaps it suppressed. -/
theorem newLive_at (y1 x1 y2 x2 : FVec Ideal S8x20480 .f32) (j : Fin 20480) : (newLive y1 x1 y2 x2 a (ix2 i j) : EReal)
    = if j = lane a i then Spec.neg
      else if Spec.half < Spec.iou (four y1 x1 y2 x2 i (lane a i)) (four y1 x1 y2 x2 i j) then Spec.neg else a (ix2 i j) := by
  have h5 : ∀ v : FVec Ideal S8x20480 .f32, (k1_pay5 v laneIx a (ix2 i 0) : EReal) = v (ix2 i (lane a i)) := take_at a i
  have h6 : ∀ v : FVec Ideal S8x20480 .f32, (k1_pay6 v laneIx a (ix2 i 0) : EReal) = v (ix2 i (lane a i)) := take_at a i
  have h7 : ∀ v : FVec Ideal S8x20480 .f32, (k1_pay7 v laneIx a (ix2 i 0) : EReal) = v (ix2 i (lane a i)) := take_at a i
  have h8 : ∀ v : FVec Ideal S8x20480 .f32, (k1_pay8 v laneIx a (ix2 i 0) : EReal) = v (ix2 i (lane a i)) := take_at a i
  pointwise [newLive, k1_pay23, k1_pay10, k1_pay11, k1_pay12, k1_pay13]
  rw [hot_at, select_dec, h5, h6, h7, h8]
  pointwise [k1_pay15, k1_pay16, k1_pay17, k1_pay18]
  rfl

/-- Which place of a column the trip numbered `k` writes. -/
theorem place_at {k : ℕ} (hk : k < 100) (s : Fin 128) : k1_pay24 (Scf.iv 0#32 1#32 k) (ix2 i s) = BitVec.ofBool (decide (s.val = k)) := by
  have e : Scf.iv 0#32 1#32 k = BitVec.ofNat 32 k := by
    show 0#32 + BitVec.ofNat 32 k * 1#32 = _
    rw [BitVec.zero_add, BitVec.mul_one]
  rw [e]
  pointwise [k1_pay24]
  have := s.isLt
  simp (disch := omega) only [hlo_ix]

/-- A column after the trip numbered `k`: the trip's place holds the new element if the trip is valid. -/
theorem column_at (x : FVec Ideal S8x128 .f32) {k : ℕ} (hk : k < 100) (w : FVec Ideal S8x1 .f32) (q : IVec S8x1 1) (p : Prop) [Decidable p]
    (hq : q (ix2 i 0) = BitVec.ofBool (decide p)) (s : Fin 128) :
    (k1_pay25 x (Scf.iv 0#32 1#32 k) w q (ix2 i s) : EReal) = if s.val = k ∧ p then w (ix2 i 0) else x (ix2 i s) := by
  pointwise [k1_pay25]
  rw [place_at i hk, hq]
  by_cases h : s.val = k <;> by_cases h' : p <;> simp [h, h', Scalar.select, IntOp.andi]

/-- The same for the column of classes. -/
theorem classColumn_at (x : IVec S8x128 32) {k : ℕ} (hk : k < 100) (w : IVec S8x1 32) (q : IVec S8x1 1) (p : Prop) [Decidable p]
    (hq : q (ix2 i 0) = BitVec.ofBool (decide p)) (s : Fin 128) :
    k1_pay30 x (Scf.iv 0#32 1#32 k) q w (ix2 i s) = if s.val = k ∧ p then w (ix2 i 0) else x (ix2 i s) := by
  pointwise [k1_pay30]
  rw [place_at i hk, hq]
  by_cases h : s.val = k <;> by_cases h' : p <;> simp [h, h', Scalar.select, IntOp.andi]

/-- The count after a trip. -/
theorem count_at (n : IVec S8x1 32) (q : IVec S8x1 1) (p : Prop) [Decidable p] (hq : q (ix2 i 0) = BitVec.ofBool (decide p)) :
    k1_pay31 n q (ix2 i 0) = n (ix2 i 0) + BitVec.ofNat 32 (if p then 1 else 0) := by
  pointwise [k1_pay31]
  rw [hq]
  by_cases h : p <;> simp [h, IntOp.addi]

/-! ## The arrays at the loop's entry -/

/-- The live scores: those below the threshold suppressed. -/
theorem start_live_at (sc : Vec Ideal S8x20480 .f32) (j : Fin 20480) :
    (k1_pay19 sc (ix2 i j) : EReal) = if Spec.low ≤ (sc (ix2 i j) : EReal) then (sc (ix2 i j) : EReal) else Spec.neg := by
  pointwise [k1_pay19]

/-- A column of scores or coordinates: −1 everywhere. -/
theorem start_column_at (s : Fin 128) : (k1_pay20 (F := Ideal) (ix2 i s) : EReal) = Ideal.ofBits .f32 0xBF800000#32 := by
  pointwise [k1_pay20]

/-- The column of classes: −1 everywhere. -/
theorem start_classColumn_at (s : Fin 128) : k1_pay21 (ix2 i s) = 4294967295#32 := by
  pointwise [k1_pay21]

/-- The count: zero. -/
theorem start_count_at : k1_pay22 (ix2 i 0) = 0#32 := by
  pointwise [k1_pay22]

/-- The counts on every lane. -/
theorem counts_at (n : IVec S8x1 32) (s : Fin 128) : k1_pay1 n (ix2 i s) = n (ix2 i 0) := by
  pointwise [k1_pay1]

end Cert.KernelIdeal.Nms
-- ==== Proof.PI.Reduced.lean ====
/- The arrays that the class reduction leaves: every box's largest score and its first class. -/
module

public import proofs.«01_k».proof.Proof.PI.Run
public import proofs.«01_k».proof.Proof.PI.Math
public import Idealize.ShloMosaic.Lib.Pipeline.ValueKit

@[expose] public section

set_option maxRecDepth 20000

noncomputable section

namespace Cert.KernelIdeal.Nms

open Cert.KernelIdeal Cert.KernelIdeal.Gen Cert.First
open Idealize.ShloMosaic Idealize.ShloMosaic.TcCoe

/-- Which blocks the class reduction's points see and write. -/
theorem index0 : ∀ t : Fin cfg0.N, win0_0.index t = ![t.val / 10, t.val % 10, 0] ∧ win0_1.index t = ![t.val / 10, t.val % 10, 0]
    ∧ win0_2.index t = ![t.val / 10, t.val % 10, 0] :=
  (by decide +kernel : ∀ t : Fin grid0.N, _)

/-- The only index of a block's column at its row. -/
theorem eq_row (y : S1x2000x1.Idx) : y = ix3 0 (y 1) 0 := by
  funext a
  match a with
  | ⟨0, _⟩ => exact Subsingleton.elim (α := Fin 1) _ _
  | ⟨1, _⟩ => rfl
  | ⟨2, _⟩ => exact Subsingleton.elim (α := Fin 1) _ _

variable (c : Dev nD) (V : Valuation τ sig (Elt Ideal))

/-- The class scores at entry. -/
abbrev scores : Vec Ideal S8x20000x91 .f32 := V (Proc.devRef .tc main_arg1)

/-- A row of a point's block lies in the array. -/
theorem bound {t : ℕ} (h : t < 80) (j : Fin 2000) : t % 10 * 2000 + j.val < 20000 := by omega

/-- The block of a point. -/
theorem blk0_at (t : Fin cfg0.N) (j : Fin 2000) (k : Fin 91) (ht : t.val < 80) :
    (blk0 V t (ix3 0 j k) : EReal) = scores V (ix3 ⟨t.val / 10, by omega⟩ ⟨t.val % 10 * 2000 + j.val, bound ht j⟩ k) := by
  blk_ext [blk0, index0 t]

/-- The place of a block's row in the arrays written. -/
theorem emb0_1 (t : Fin cfg0.N) (y : S1x2000x1.Idx) (ht : t.val < 80) :
    ((win0_1.blk t).view.emb y : S8x20000x1.Idx) = ix3 ⟨t.val / 10, by omega⟩ ⟨t.val % 10 * 2000 + (y 1).val, bound ht (y 1)⟩ 0 := by
  blk_ext [index0 t]

/-- The same in the array of classes. -/
theorem emb0_2 (t : Fin cfg0.N) (y : S1x2000x1.Idx) (ht : t.val < 80) :
    ((win0_2.blk t).view.emb y : S8x20000x1.Idx) = ix3 ⟨t.val / 10, by omega⟩ ⟨t.val % 10 * 2000 + (y 1).val, bound ht (y 1)⟩ 0 := by
  blk_ext [index0 t]

/-- The row of scores of a point's box. -/
theorem blk0_row (t : Fin cfg0.N) (j : Fin 2000) (ht : t.val < 80) :
    (fun k : Fin 91 => (blk0 V t (ix3 0 j k) : EReal))
      = fun k => scores V (ix3 ⟨t.val / 10, by omega⟩ ⟨t.val % 10 * 2000 + j.val, bound ht j⟩ k) :=
  funext fun k => blk0_at V t j k ht

/-- The largest score of a box. -/
abbrev topOf (i : Fin 8) (j : Fin 20000) : EReal := scores V (ix3 i j (first fun k : Fin 91 => (scores V (ix3 i j k) : EReal)))
/-- The first class holding it, as a word. -/
abbrev clsOf (i : Fin 8) (j : Fin 20000) : BitVec 32 := BitVec.ofNat 32 (first fun k : Fin 91 => (scores V (ix3 i j k) : EReal)).val

/-- What a point writes at a row. -/
theorem point_scores (t : Fin cfg0.N) (y : S1x2000x1.Idx) (ht : t.val < 80) :
    (k0_pay3 (blk0 V t) y : EReal) = topOf V ⟨t.val / 10, by omega⟩ ⟨t.val % 10 * 2000 + (y 1).val, bound ht (y 1)⟩ := by
  refine (congrArg (k0_pay3 (blk0 V t)) (eq_row y)).trans ((pay3_at (blk0 V t) (y 1)).trans ?_)
  rw [blk0_row V t (y 1) ht]
  exact blk0_at V t (y 1) _ ht

/-- And in the array of classes. -/
theorem point_classes (t : Fin cfg0.N) (y : S1x2000x1.Idx) (ht : t.val < 80) :
    k0_pay4 (blk0 V t) y = clsOf V ⟨t.val / 10, by omega⟩ ⟨t.val % 10 * 2000 + (y 1).val, bound ht (y 1)⟩ := by
  refine (congrArg (k0_pay4 (blk0 V t)) (eq_row y)).trans ((pay4_at (blk0 V t) (y 1)).trans ?_)
  rw [blk0_row V t (y 1) ht]

/-- The array of largest scores. -/
theorem reduced_scores : (dat0 c V).arrAt 1 cfg0.N = fun q : S8x20000x1.Idx => topOf V (q 0) (q 1) := by
  refine (dat0 c V).arrAt_eq_of_covers 1 _ (by decide +kernel) fun t _ y => ?_
  rw [after0_1]
  blk_simp
  have ht : t.val < 80 := t.isLt
  rw [emb0_1 t y ht]
  exact point_scores V t y ht

/-- The array of classes. -/
theorem reduced_classes : (dat0 c V).arrAt 2 cfg0.N = fun q : S8x20000x1.Idx => clsOf V (q 0) (q 1) := by
  refine (dat0 c V).arrAt_eq_of_covers 2 _ (by decide +kernel) fun t _ y => ?_
  rw [after0_2]
  blk_simp
  have ht : t.val < 80 := t.isLt
  rw [emb0_2 t y ht]
  exact point_classes V t y ht

variable (m : (ℓ : Loc nD τ sig) → Buf (Elt Ideal) ℓ)

/-- The class scores at launch. -/
abbrev argScores : Vec Ideal S8x20000x91 .f32 := m ((c.tc : Thread nD τ).loc main_arg1)
/-- The boxes at launch. -/
abbrev argBoxes : Vec Ideal S8x20000x4 .f32 := m ((c.tc : Thread nD τ).loc main_arg0)

/-- After the class reduction its first result holds every box's largest score, -/
theorem W1_scores (i : Fin 8) (j : Fin 20000) : (W1 m c (Proc.devRef .tc main_v0_0) (ix3 i j 0) : EReal)
    = Spec.top (fun j k => argScores c m (ix3 i j k)) j := by
  have e : W1 m c (Proc.devRef .tc main_v0_0) = (dat0 c (W0 m c)).arrAt 1 cfg0.N :=
    Pipeline.afterRegion_arr (dat0 c (W0 m c)) (W0 m c) launch0.win.arr_inj 1
  rw [e, reduced_scores]
  rfl

/-- and its second the first class holding it. -/
theorem W1_classes (i : Fin 8) (j : Fin 20000) : W1 m c (Proc.devRef .tc main_v0_1) (ix3 i j 0)
    = BitVec.ofNat 32 (Spec.cls (fun j k => argScores c m (ix3 i j k)) j).val := by
  have e : W1 m c (Proc.devRef .tc main_v0_1) = (dat0 c (W0 m c)).arrAt 2 cfg0.N :=
    Pipeline.afterRegion_arr (dat0 c (W0 m c)) (W0 m c) launch0.win.arr_inj 2
  rw [e, reduced_classes]
  rfl

end Cert.KernelIdeal.Nms
-- ==== Proof.PI.Trips.lean ====
/- The kernel's suppression trips on padded rows are the per-image suppression of the real boxes. -/
module

public import proofs.«01_k».proof.Proof.PI.Math

@[expose] public section

set_option maxRecDepth 20000

noncomputable section

namespace Cert.KernelIdeal.Nms

open Cert.KernelIdeal Cert.KernelIdeal.Gen Cert.First
open Idealize.ShloMosaic Idealize.ShloMosaic.TcCoe

/-- The lane of a real box. -/
abbrev real (j : Fin 20000) : Fin 20480 := Fin.castLE (by norm_num) j

/-- A padded row: the elements `x` on the real lanes, `z` on the others. -/
structure Padded (r : Fin 20480 → EReal) (x : Fin 20000 → EReal) (z : EReal) : Prop where
  on : ∀ j, r (real j) = x j
  off : ∀ l : Fin 20480, 20000 ≤ l.val → r l = z

/-- Every lane is a real box's or past them. -/
theorem lane_cases (l : Fin 20480) : (∃ j, l = real j) ∨ 20000 ≤ l.val := by
  rcases Nat.lt_or_ge l.val 20000 with h | h
  · exact Or.inl ⟨⟨l.val, h⟩, rfl⟩
  · exact Or.inr h

/-- If no element is below the padding, the first largest lane is the first largest box's. -/
theorem Padded.first {r : Fin 20480 → EReal} {x : Fin 20000 → EReal} {z : EReal} (h : Padded r x z) (hz : ∀ j, z ≤ x j) :
    Cert.First.first r = real (Cert.First.first x) := by
  refine first_eq fun l => ?_
  rw [h.on]
  rcases lane_cases l with ⟨j, rfl⟩ | hl
  · rw [h.on]
    exact first_isFirst x j
  · rw [h.off l hl]
    refine ⟨hz _, fun _ => ?_⟩
    have := (Cert.First.first x).isLt
    show (Cert.First.first x).val ≤ l.val
    omega

section
variable (bx : Fin 20000 → Fin 4 → EReal) (s : Fin 20000 → Fin 91 → EReal) (i : Fin 8)
variable (sc : Vec Ideal S8x20480 .f32) (cl : Vec Ideal S8x20480 .i32) (y1 x1 y2 x2 : Vec Ideal S8x20480 .f32)

/-- The padded arrays hold, in image `i`, the boxes `bx` and the scores and classes of `s`. -/
structure Holds : Prop where
  score : Padded (fun l => (sc (ix2 i l) : EReal)) (Spec.top s) Spec.neg
  cls : ∀ j, cl (ix2 i (real j)) = BitVec.ofNat 32 (Spec.cls s j).val
  box : ∀ j, four y1 x1 y2 x2 i (real j) = bx j

open Classical in
/-- What the trips carry after `k` of them, in image `i`. -/
structure After (k : ℕ) (a : St Ideal) : Prop where
  live : Padded (fun l => (a.1 (ix2 i l) : EReal)) (Spec.live bx s k) Spec.neg
  score : ∀ t : Fin 128, (a.2.1 (ix2 i t) : EReal) = if t.val < k ∧ Spec.Ok bx s t.val then Spec.best bx s t.val else Ideal.ofBits .f32 0xBF800000#32
  c0 : ∀ t : Fin 128, (a.2.2.1 (ix2 i t) : EReal) = if t.val < k ∧ Spec.Ok bx s t.val then bx (Spec.pick bx s t.val) 0 else Ideal.ofBits .f32 0xBF800000#32
  c1 : ∀ t : Fin 128, (a.2.2.2.1 (ix2 i t) : EReal) = if t.val < k ∧ Spec.Ok bx s t.val then bx (Spec.pick bx s t.val) 1 else Ideal.ofBits .f32 0xBF800000#32
  c2 : ∀ t : Fin 128, (a.2.2.2.2.1 (ix2 i t) : EReal) = if t.val < k ∧ Spec.Ok bx s t.val then bx (Spec.pick bx s t.val) 2 else Ideal.ofBits .f32 0xBF800000#32
  c3 : ∀ t : Fin 128, (a.2.2.2.2.2.1 (ix2 i t) : EReal) = if t.val < k ∧ Spec.Ok bx s t.val then bx (Spec.pick bx s t.val) 3 else Ideal.ofBits .f32 0xBF800000#32
  cls : ∀ t : Fin 128, a.2.2.2.2.2.2.1 (ix2 i t) = if t.val < k ∧ Spec.Ok bx s t.val then BitVec.ofNat 32 (Spec.cls s (Spec.pick bx s t.val)).val else 4294967295#32
  count : a.2.2.2.2.2.2.2 (ix2 i 0) = BitVec.ofNat 32 (Spec.number bx s k)

/-- Extending a column of the first `k` trips by the trip numbered `k`. -/
theorem step_if {α : Type} (ok : ℕ → Prop) (f : ℕ → α) (z : α) (k t : ℕ) [Decidable (t = k ∧ ok k)] [Decidable (t < k ∧ ok t)]
    [Decidable (t < k + 1 ∧ ok t)] :
    (if t = k ∧ ok k then f k else if t < k ∧ ok t then f t else z) = if t < k + 1 ∧ ok t then f t else z := by
  by_cases h : t = k
  · subst h
    by_cases h' : ok t
    · rw [if_pos ⟨rfl, h'⟩, if_pos ⟨by omega, h'⟩]
    · rw [if_neg (fun q => h' q.2), if_neg (fun q => h' q.2), if_neg (fun q => h' q.2)]
  · rw [if_neg (fun q => h q.1)]
    refine if_congr ⟨fun q => ⟨by omega, q.2⟩, fun q => ⟨by omega, q.2⟩⟩ rfl rfl

variable {bx s i sc cl y1 x1 y2 x2}

/-- The arrays at the loop's entry. -/
theorem After.zero (h : Holds bx s i sc cl y1 x1 y2 x2) : After bx s i 0 (start sc) where
  live := ⟨fun j => by
      show (k1_pay19 sc (ix2 i (real j)) : EReal) = _
      rw [start_live_at, show (sc (ix2 i (real j)) : EReal) = Spec.top s j from h.score.on j, Spec.live_zero],
    fun l hl => by
      show (k1_pay19 sc (ix2 i l) : EReal) = _
      rw [start_live_at, show (sc (ix2 i l) : EReal) = Spec.neg from h.score.off l hl]
      split <;> rfl⟩
  score t := by rw [if_neg (by omega)]; exact start_column_at i t
  c0 t := by rw [if_neg (by omega)]; exact start_column_at i t
  c1 t := by rw [if_neg (by omega)]; exact start_column_at i t
  c2 t := by rw [if_neg (by omega)]; exact start_column_at i t
  c3 t := by rw [if_neg (by omega)]; exact start_column_at i t
  cls t := by rw [if_neg (by omega)]; exact start_classColumn_at i t
  count := start_count_at i

/-- The lane a trip picks. -/
theorem After.lane {k : ℕ} {a : St Ideal} (h : After bx s i k a) : lane a.1 i = real (Spec.pick bx s k) :=
  h.live.first (Spec.neg_le_live bx s k)

section
variable (cl y1 x1 y2 x2) (n : BitVec 32) (a : St Ideal)
/-- The live scores after a trip. -/
theorem trip_live : (trip cl y1 x1 y2 x2 n a).1 = newLive y1 x1 y2 x2 a.1 := by
  unfold trip newLive
  with_reducible rfl
/-- The columns after a trip, each by the first column's operations. -/
theorem trip_score : (trip cl y1 x1 y2 x2 n a).2.1 = k1_pay25 a.2.1 n (k1_pay2 a.1) (k1_pay3 a.1) := rfl
/-- The first coordinate's column, -/
theorem trip_c0 : (trip cl y1 x1 y2 x2 n a).2.2.1 = k1_pay25 a.2.2.1 n (k1_pay5 (k1_pay15 y1) laneIx a.1) (k1_pay3 a.1) := rfl
/-- the second's, -/
theorem trip_c1 : (trip cl y1 x1 y2 x2 n a).2.2.2.1 = k1_pay25 a.2.2.2.1 n (k1_pay5 (k1_pay16 x1) laneIx a.1) (k1_pay3 a.1) := rfl
/-- the third's -/
theorem trip_c2 : (trip cl y1 x1 y2 x2 n a).2.2.2.2.1 = k1_pay25 a.2.2.2.2.1 n (k1_pay5 (k1_pay17 y2) laneIx a.1) (k1_pay3 a.1) := rfl
/-- and the fourth's. -/
theorem trip_c3 : (trip cl y1 x1 y2 x2 n a).2.2.2.2.2.1 = k1_pay25 a.2.2.2.2.2.1 n (k1_pay5 (k1_pay18 x2) laneIx a.1) (k1_pay3 a.1) := rfl
end

/-- The element of one coordinate's row that a trip takes. -/
theorem coordinate_at (a : FVec Ideal S8x20480 .f32) (i : Fin 8) (v : Vec Ideal S8x20480 .f32) :
    (k1_pay5 (k1_pay15 v) laneIx a (ix2 i 0) : EReal) = v (ix2 i (Nms.lane a i)) := by
  rw [take_at]
  pointwise [k1_pay15]

/-- The class that a trip takes. -/
theorem class_at (a : FVec Ideal S8x20480 .f32) (i : Fin 8) (v : Vec Ideal S8x20480 .i32) :
    k1_pay9 (F := Ideal) (k1_pay14 (F := Ideal) v) laneIx a (ix2 i 0) = v (ix2 i (Nms.lane a i)) := by
  rw [takeClass_at]
  pointwise [k1_pay14]

/-- One trip more. -/
theorem After.succ (hh : Holds bx s i sc cl y1 x1 y2 x2) {k : ℕ} (hk : k < 100) {a : St Ideal} (h : After bx s i k a) :
    After bx s i (k + 1) (trip cl y1 x1 y2 x2 (Scf.iv 0#32 1#32 k) a) := by
  classical
  have hl := h.lane
  have hbest : (a.1 (ix2 i (Nms.lane a.1 i)) : EReal) = Spec.best bx s k := by rw [hl]; exact h.live.on _
  have hv : k1_pay3 a.1 (ix2 i 0) = BitVec.ofBool (decide (Spec.Ok bx s k)) := by
    rw [valid_at, hbest]; simp only [Spec.Ok]; congr
  have hcol : ∀ (x : FVec Ideal S8x128 .f32) (w : FVec Ideal S8x1 .f32) (f : ℕ → EReal) (t : Fin 128),
      ((x (ix2 i t) : EReal) = if t.val < k ∧ Spec.Ok bx s t.val then f t.val else Ideal.ofBits .f32 0xBF800000#32) →
      (w (ix2 i 0) : EReal) = f k →
      (k1_pay25 x (Scf.iv 0#32 1#32 k) w (k1_pay3 a.1) (ix2 i t) : EReal)
        = if t.val < k + 1 ∧ Spec.Ok bx s t.val then f t.val else Ideal.ofBits .f32 0xBF800000#32 := by
    intro x w f t hx hw
    rw [column_at i x hk w _ _ hv t, hx, hw]
    exact step_if (Spec.Ok bx s) f _ k t.val
  have hbox : four y1 x1 y2 x2 i (Nms.lane a.1 i) = bx (Spec.pick bx s k) := by rw [hl]; exact hh.box _
  have hnew : ∀ l : Fin 20480, ((trip cl y1 x1 y2 x2 (Scf.iv 0#32 1#32 k) a).1 (ix2 i l) : EReal) = if l = Nms.lane a.1 i then Spec.neg
      else if Spec.half < Spec.iou (four y1 x1 y2 x2 i (Nms.lane a.1 i)) (four y1 x1 y2 x2 i l) then Spec.neg else a.1 (ix2 i l) := by
    intro l
    rw [trip_live]
    exact newLive_at a.1 i y1 x1 y2 x2 l
  refine ⟨⟨fun j => ?_, fun l hlane => ?_⟩, fun t => ?_, fun t => ?_, fun t => ?_, fun t => ?_, fun t => ?_, fun t => ?_, ?_⟩
  · refine (hnew (real j)).trans ?_
    rw [hbox, hh.box j, hl, Spec.live_succ, show (a.1 (ix2 i (real j)) : EReal) = Spec.live bx s k j from h.live.on j]
    refine if_congr ⟨fun e => Fin.castLE_injective _ e, fun e => e ▸ rfl⟩ rfl rfl
  · refine (hnew l).trans ?_
    rw [show (a.1 (ix2 i l) : EReal) = Spec.neg from h.live.off l hlane]
    split
    · rfl
    · split <;> rfl
  · rw [trip_score]
    exact hcol a.2.1 _ (Spec.best bx s) t (h.score t) ((Nms.best_at a.1 i).trans hbest)
  · rw [trip_c0]
    exact hcol a.2.2.1 _ (fun n => bx (Spec.pick bx s n) 0) t (h.c0 t) ((coordinate_at a.1 i y1).trans (congrFun hbox 0))
  · rw [trip_c1]
    exact hcol a.2.2.2.1 _ (fun n => bx (Spec.pick bx s n) 1) t (h.c1 t) ((coordinate_at a.1 i x1).trans (congrFun hbox 1))
  · rw [trip_c2]
    exact hcol a.2.2.2.2.1 _ (fun n => bx (Spec.pick bx s n) 2) t (h.c2 t) ((coordinate_at a.1 i y2).trans (congrFun hbox 2))
  · rw [trip_c3]
    exact hcol a.2.2.2.2.2.1 _ (fun n => bx (Spec.pick bx s n) 3) t (h.c3 t) ((coordinate_at a.1 i x2).trans (congrFun hbox 3))
  · refine (classColumn_at i a.2.2.2.2.2.2.1 hk _ _ _ hv t).trans ?_
    rw [h.cls t, class_at, hl, hh.cls]
    exact step_if (Spec.Ok bx s) (fun n => BitVec.ofNat 32 (Spec.cls s (Spec.pick bx s n)).val) _ k t.val
  · refine (count_at i a.2.2.2.2.2.2.2 _ _ hv).trans ?_
    rw [h.count, Spec.number_succ _ _ _ (Classical.dec _), BitVec.ofNat_add]

/-- What the trips carry after `k` of them is the per-image suppression after `k` trips. -/
theorem after_stAt (hh : Holds bx s i sc cl y1 x1 y2 x2) : ∀ k, k ≤ 100 → After bx s i k (stAt sc cl y1 x1 y2 x2 k)
  | 0, _ => After.zero hh
  | k + 1, hk => (after_stAt hh k (by omega)).succ hh (by omega)
end

end Cert.KernelIdeal.Nms
-- ==== Proof.PI.Host.lean ====
/- The host's operations between the regions and after them, read at the buffers that matter. -/
module

public import proofs.«01_k».proof.Proof.PI.Trips
public import Idealize.ShloMosaic.Lib.StableHlo.RunRead
public import Idealize.ShloMosaic.Lib.Pointwise

@[expose] public section

set_option maxRecDepth 20000

noncomputable section

namespace Cert.KernelIdeal.Nms

open Cert.KernelIdeal Cert.KernelIdeal.Gen
open Idealize.ShloMosaic Idealize.ShloMosaic.TcCoe
open Idealize.ShloMosaic.StableHlo

/-! ## Between the regions -/

/-- The scores padded with the suppressed value. -/
def padScores (x : Vec Ideal S8x20000x1 .f32) : Vec Ideal S8x20480 .f32 :=
  pad S8x20480 ![0, 0] ![0, 480] ![0, 0] (shapeCast S8x20000 x shapeCasts_S8x20000x1_S8x20000) (id (constant (F := Ideal) S_ .f32 0xCE6E6B28#32))
    pads_S8x20000_S8x20480_000_04800 h_S_

/-- The classes padded with 0. -/
def padClasses (x : Vec Ideal S8x20000x1 .i32) : Vec Ideal S8x20480 .i32 :=
  pad S8x20480 ![0, 0] ![0, 480] ![0, 0] (shapeCast S8x20000 x shapeCasts_S8x20000x1_S8x20000) (id (constantI S_ 32 0#32))
    pads_S8x20000_S8x20480_000_04800 h_S_

/-- The boxes, a row per coordinate, padded. -/
def padBoxes (x : Vec Ideal S8x20000x4 .f32) : Vec Ideal S4x8x20480 .f32 :=
  pad S4x8x20480 ![0, 0, 0] ![0, 0, 480] ![0, 0, 0] (transpose S4x8x20000 [2, 0, 1] x transposes_S8x20000x4_S4x8x20000_2_0_1)
    (sitofp (F := Ideal) .f32 (constantI S_ 32 0#32)) pads_S4x8x20000_S4x8x20480_000_000_04800 h_S_

section
variable (V : Valuation τ sig (Elt Ideal))

/-- The buffers after the host's operations between the regions. -/
abbrev between : Valuation τ sig (Elt Ideal) :=
  after hostOps1_6 (after hostOps1_5 (after hostOps1_4 (after hostOps1_3 (after hostOps1_2 (after hostOps1_1 (after hostOps1 V))))))

/-- The scores that the suppression reads are the largest scores, padded; -/
theorem between_scores : between V (Proc.devRef .tc main_v3) = padScores (V (Proc.devRef .tc main_v0_0)) := by
  after_reads_simp
  simp only [TRef.toBuf, TRef.ofBuf, TRef.of, cast_cast, cast_eq]
  unfold padScores
  rfl

/-- the classes are the classes, padded; -/
theorem between_classes : between V (Proc.devRef .tc main_v4) = padClasses (V (Proc.devRef .tc main_v0_1)) := by
  after_reads_simp
  simp only [TRef.toBuf, TRef.ofBuf, TRef.of, cast_cast, cast_eq]
  unfold padClasses
  rfl

/-- its four coordinate arrays are the rows of the padded boxes: the row of coordinate 0, -/
theorem between_y1 : between V (Proc.devRef .tc main_v8) = shapeCast S8x20480 (extractStridedSlice S1x8x20480 ![0, 0, 0]
    (padBoxes (V (Proc.devRef .tc main_arg0))) slices_S4x8x20480_S1x8x20480_0_0_0) shapeCasts_S1x8x20480_S8x20480 := by
  after_reads_simp
  simp only [TRef.toBuf, TRef.ofBuf, TRef.of, cast_cast, cast_eq]
  unfold padBoxes
  rfl

/-- of coordinate 1, -/
theorem between_x1 : between V (Proc.devRef .tc main_v10) = shapeCast S8x20480 (extractStridedSlice S1x8x20480 ![1, 0, 0]
    (padBoxes (V (Proc.devRef .tc main_arg0))) slices_S4x8x20480_S1x8x20480_1_0_0) shapeCasts_S1x8x20480_S8x20480 := by
  after_reads_simp
  simp only [TRef.toBuf, TRef.ofBuf, TRef.of, cast_cast, cast_eq]
  unfold padBoxes
  rfl

/-- of coordinate 2 -/
theorem between_y2 : between V (Proc.devRef .tc main_v12) = shapeCast S8x20480 (extractStridedSlice S1x8x20480 ![2, 0, 0]
    (padBoxes (V (Proc.devRef .tc main_arg0))) slices_S4x8x20480_S1x8x20480_2_0_0) shapeCasts_S1x8x20480_S8x20480 := by
  after_reads_simp
  simp only [TRef.toBuf, TRef.ofBuf, TRef.of, cast_cast, cast_eq]
  unfold padBoxes
  rfl

/-- and of coordinate 3. -/
theorem between_x2 : between V (Proc.devRef .tc main_v14) = shapeCast S8x20480 (extractStridedSlice S1x8x20480 ![3, 0, 0]
    (padBoxes (V (Proc.devRef .tc main_arg0))) slices_S4x8x20480_S1x8x20480_3_0_0) shapeCasts_S1x8x20480_S8x20480 := by
  after_reads_simp
  simp only [TRef.toBuf, TRef.ofBuf, TRef.of, cast_cast, cast_eq]
  unfold padBoxes
  rfl
end

/-- A lane of the padded scores, -/
theorem padScores_at (x : Vec Ideal S8x20000x1 .f32) (i : Fin 8) (l : Fin 20480) :
    (padScores x (ix2 i l) : EReal) = if h : l.val < 20000 then (x (ix3 i ⟨l.val, h⟩ 0) : EReal) else Ideal.ofBits .f32 0xCE6E6B28#32 := by
  pointwise [padScores]
  rfl

/-- of the padded classes, -/
theorem padClasses_at (x : Vec Ideal S8x20000x1 .i32) (i : Fin 8) (l : Fin 20480) :
    padClasses x (ix2 i l) = if h : l.val < 20000 then x (ix3 i ⟨l.val, h⟩ 0) else 0#32 := by
  pointwise [padClasses]
  rfl

/-- and a real lane of a coordinate's row. -/
theorem coord_at (x : Vec Ideal S8x20000x4 .f32) (q : Fin 4) (hs : S4x8x20480.Slices ![q.val, 0, 0] S1x8x20480) (i : Fin 8) (j : Fin 20000) :
    ((shapeCast S8x20480 (extractStridedSlice S1x8x20480 ![q.val, 0, 0] (padBoxes x) hs) shapeCasts_S1x8x20480_S8x20480 : Vec Ideal S8x20480 .f32)
      (ix2 i (real j)) : EReal) = x (ix3 i j q) := by
  pointwise [padBoxes]
  exact dif_pos j.isLt

/-! ## After the regions -/

section
variable (V : Valuation τ sig (Elt Ideal))

/-- The scores returned are the first hundred lanes of the scores' column; -/
theorem out_scores : after hostOps2 V (Proc.devRef .tc main_v16)
    = extractStridedSlice S8x100 ![0, 0] (V (Proc.devRef .tc main_v15_0)) slices_S8x128_S8x100_0_0 := by
  after_reads_simp

/-- the classes returned are those of the classes' column; -/
theorem out_classes : after hostOps2 V (Proc.devRef .tc main_v26)
    = extractStridedSlice S8x100 ![0, 0] (V (Proc.devRef .tc main_v15_5)) slices_S8x128_S8x100_0_0 := by
  after_reads_simp

/-- One number per image, taken from the first lane. -/
def firstLane (x : Vec Ideal S8x128 .i32) : Vec Ideal S8 .i32 :=
  shapeCast S8 (extractStridedSlice S8x1 ![0, 0] x slices_S8x128_S8x1_0_0) shapeCasts_S8x1_S8

/-- The counts returned are the first lane of the counts. -/
theorem out_counts : after hostOps2 V (Proc.devRef .tc main_v28) = firstLane (V (Proc.devRef .tc main_v15_6)) := by
  after_reads_simp
  rfl

/-- The first hundred places of a column, as one coordinate of boxes. -/
abbrev coordColumn (x : Vec Ideal S8x128 .f32) : Vec Ideal S8x100x1 .f32 :=
  broadcastInDim S8x100x1 ![0, 1] bcast_S8x100_S8x100x1_0_1 (extractStridedSlice S8x100 ![0, 0] x slices_S8x128_S8x100_0_0)

/-- Four columns put side by side as boxes. -/
def boxes (y1 x1 y2 x2 : Vec Ideal S8x128 .f32) : Vec Ideal S8x100x4 .f32 :=
  concatenate S8x100x4 2 [⟨S8x100x1, coordColumn y1⟩, ⟨S8x100x1, coordColumn x1⟩, ⟨S8x100x1, coordColumn y2⟩, ⟨S8x100x1, coordColumn x2⟩]
    concatenates_S8x100x1_S8x100x1_S8x100x1_S8x100x1_S8x100x4_d2

/-- The boxes returned are the four coordinates' columns side by side. -/
theorem out_boxes : after hostOps2 V (Proc.devRef .tc main_v25)
    = boxes (V (Proc.devRef .tc main_v15_1)) (V (Proc.devRef .tc main_v15_2)) (V (Proc.devRef .tc main_v15_3)) (V (Proc.devRef .tc main_v15_4)) := by
  after_reads_simp
  unfold boxes
  rfl
end

/-- The count returned for an image; -/
theorem firstLane_at (x : Vec Ideal S8x128 .i32) (i : Fin 8) : firstLane x (ix1 i) = x (ix2 i 0) := by
  pointwise [firstLane]

/-- one of the first hundred lanes of a column; -/
theorem slice_at {e : EltTy} (x : Vec Ideal S8x128 e) (i : Fin 8) (s : Fin 100) :
    extractStridedSlice S8x100 ![0, 0] x slices_S8x128_S8x100_0_0 (ix2 i s) = x (ix2 i ⟨s.val, by omega⟩) := by
  pointwise

/-- and a coordinate of a returned box: the same lane of its coordinate's column. -/
theorem boxes_at (y1 x1 y2 x2 : Vec Ideal S8x128 .f32) (i : Fin 8) (s : Fin 100) (d : Fin 4) :
    (boxes y1 x1 y2 x2 (ix3 i s d) : EReal) = (![y1 (ix2 i ⟨s.val, by omega⟩), x1 (ix2 i ⟨s.val, by omega⟩), y2 (ix2 i ⟨s.val, by omega⟩), x2 (ix2 i ⟨s.val, by omega⟩)] : Fin 4 → EReal) d := by
  pointwise [boxes]
  match d with
  | 0 => rfl
  | 1 => rfl
  | 2 => rfl
  | 3 => rfl

end Cert.KernelIdeal.Nms
-- ==== Proof.PI.Results.lean ====
/- The kernel's four results, element by element, as the per-image suppression. -/
module

public import proofs.«01_k».proof.Proof.PI.Reduced
public import proofs.«01_k».proof.Proof.PI.Host

@[expose] public section

set_option maxRecDepth 20000

noncomputable section

namespace Cert.KernelIdeal.Nms

open Cert.KernelIdeal Cert.KernelIdeal.Gen
open Idealize.ShloMosaic Idealize.ShloMosaic.TcCoe

/-! ## The suppression's windows

Each is a whole array, at the one point. -/

/-- Every window sits at block 0. -/
theorem index1 : ∀ t : Fin cfg1.N, (win1_0.index t = ![0, 0] ∧ win1_1.index t = ![0, 0] ∧ win1_2.index t = ![0, 0] ∧ win1_3.index t = ![0, 0] ∧ win1_4.index t = ![0, 0] ∧ win1_5.index t = ![0, 0] ∧ win1_6.index t = ![0, 0] ∧ win1_7.index t = ![0, 0] ∧ win1_8.index t = ![0, 0] ∧ win1_9.index t = ![0, 0] ∧ win1_10.index t = ![0, 0] ∧ win1_11.index t = ![0, 0] ∧ win1_12.index t = ![0, 0]) :=
  (by decide +kernel : ∀ t : Fin grid1.N, _)

section
variable (c : Dev nD) (V : Valuation τ sig (Elt Ideal)) (t : Fin cfg1.N)

/-! What the input windows hold: -/

/-- the padded scores, -/
theorem blk1_scores (i : Fin 8) (l : Fin 20480) : (blk1 V 0 t (ix2 i l) : EReal) = V (Proc.devRef .tc main_v3) (ix2 i l) := by
  blk_ext [blk1, index1 t]
/-- the padded classes, -/
theorem blk1_classes (i : Fin 8) (l : Fin 20480) : blk1 V 1 t (ix2 i l) = V (Proc.devRef .tc main_v4) (ix2 i l) := by
  blk_ext [blk1, index1 t]
/-- and the padded coordinates. -/
theorem blk1_y1 (i : Fin 8) (l : Fin 20480) : (blk1 V 2 t (ix2 i l) : EReal) = V (Proc.devRef .tc main_v8) (ix2 i l) := by
  blk_ext [blk1, index1 t]
/-- The second coordinate, -/
theorem blk1_x1 (i : Fin 8) (l : Fin 20480) : (blk1 V 3 t (ix2 i l) : EReal) = V (Proc.devRef .tc main_v10) (ix2 i l) := by
  blk_ext [blk1, index1 t]
/-- the third -/
theorem blk1_y2 (i : Fin 8) (l : Fin 20480) : (blk1 V 4 t (ix2 i l) : EReal) = V (Proc.devRef .tc main_v12) (ix2 i l) := by
  blk_ext [blk1, index1 t]
/-- and the fourth. -/
theorem blk1_x2 (i : Fin 8) (l : Fin 20480) : (blk1 V 5 t (ix2 i l) : EReal) = V (Proc.devRef .tc main_v14) (ix2 i l) := by
  blk_ext [blk1, index1 t]

/-! A place of an output window is the same place of its array. -/

/-- Of the scores' column, -/
theorem emb1_6 (y : S8x128.Idx) : ((win1_6.blk t).view.emb y : S8x128.Idx) = y := by blk_ext [index1 t]
/-- of the first coordinate's, -/
theorem emb1_7 (y : S8x128.Idx) : ((win1_7.blk t).view.emb y : S8x128.Idx) = y := by blk_ext [index1 t]
/-- of the second's, -/
theorem emb1_8 (y : S8x128.Idx) : ((win1_8.blk t).view.emb y : S8x128.Idx) = y := by blk_ext [index1 t]
/-- of the third's, -/
theorem emb1_9 (y : S8x128.Idx) : ((win1_9.blk t).view.emb y : S8x128.Idx) = y := by blk_ext [index1 t]
/-- of the fourth's, -/
theorem emb1_10 (y : S8x128.Idx) : ((win1_10.blk t).view.emb y : S8x128.Idx) = y := by blk_ext [index1 t]
/-- of the classes' -/
theorem emb1_11 (y : S8x128.Idx) : ((win1_11.blk t).view.emb y : S8x128.Idx) = y := by blk_ext [index1 t]
/-- and of the counts'. -/
theorem emb1_12 (y : S8x128.Idx) : ((win1_12.blk t).view.emb y : S8x128.Idx) = y := by blk_ext [index1 t]

/-- The suppression has one point. -/
abbrev point : Fin cfg1.N := ⟨0, by decide⟩
/-- Every point is that one. -/
theorem eq_point (t' : Fin cfg1.N) : t' = t := Subsingleton.elim (α := Fin 1) _ _

/-! What the region leaves in the output arrays: -/

/-- the scores' column, -/
theorem left_scores : (dat1 c V).arrAt 6 cfg1.N = (end1 V t).2.1 :=
  (dat1 c V).arrAt_eq_of_covers 6 _ (by decide +kernel) fun t' _ y => by
    obtain rfl := eq_point t t'
    dsimp only [dat1]
    blk_simp
    exact congrArg (end1 V t').2.1 (emb1_6 t' y).symm
/-- the boxes' columns, one per coordinate, -/
theorem left_y1 : (dat1 c V).arrAt 7 cfg1.N = (end1 V t).2.2.1 :=
  (dat1 c V).arrAt_eq_of_covers 7 _ (by decide +kernel) fun t' _ y => by
    obtain rfl := eq_point t t'
    dsimp only [dat1]
    blk_simp
    exact congrArg (end1 V t').2.2.1 (emb1_7 t' y).symm
/-- the second coordinate's, -/
theorem left_x1 : (dat1 c V).arrAt 8 cfg1.N = (end1 V t).2.2.2.1 :=
  (dat1 c V).arrAt_eq_of_covers 8 _ (by decide +kernel) fun t' _ y => by
    obtain rfl := eq_point t t'
    dsimp only [dat1]
    blk_simp
    exact congrArg (end1 V t').2.2.2.1 (emb1_8 t' y).symm
/-- the third's, -/
theorem left_y2 : (dat1 c V).arrAt 9 cfg1.N = (end1 V t).2.2.2.2.1 :=
  (dat1 c V).arrAt_eq_of_covers 9 _ (by decide +kernel) fun t' _ y => by
    obtain rfl := eq_point t t'
    dsimp only [dat1]
    blk_simp
    exact congrArg (end1 V t').2.2.2.2.1 (emb1_9 t' y).symm
/-- the fourth's, -/
theorem left_x2 : (dat1 c V).arrAt 10 cfg1.N = (end1 V t).2.2.2.2.2.1 :=
  (dat1 c V).arrAt_eq_of_covers 10 _ (by decide +kernel) fun t' _ y => by
    obtain rfl := eq_point t t'
    dsimp only [dat1]
    blk_simp
    exact congrArg (end1 V t').2.2.2.2.2.1 (emb1_10 t' y).symm
/-- the classes' column, -/
theorem left_classes : (dat1 c V).arrAt 11 cfg1.N = (end1 V t).2.2.2.2.2.2.1 :=
  (dat1 c V).arrAt_eq_of_covers 11 _ (by decide +kernel) fun t' _ y => by
    obtain rfl := eq_point t t'
    dsimp only [dat1]
    blk_simp
    exact congrArg (end1 V t').2.2.2.2.2.2.1 (emb1_11 t' y).symm
/-- and the counts, the same in every lane. -/
theorem left_counts : (dat1 c V).arrAt 12 cfg1.N = k1_pay1 (end1 V t).2.2.2.2.2.2.2 :=
  (dat1 c V).arrAt_eq_of_covers 12 _ (by decide +kernel) fun t' _ y => by
    obtain rfl := eq_point t t'
    dsimp only [dat1]
    blk_simp
    exact congrArg (k1_pay1 (end1 V t').2.2.2.2.2.2.2) (emb1_12 t' y).symm
end

section
variable (c : Dev nD) (m : (ℓ : Loc nD τ sig) → Buf (Elt Ideal) ℓ) (i : Fin 8) (t : Fin cfg1.N)

/-- The boxes of an image at launch, -/
abbrev boxesOf (j : Fin 20000) (d : Fin 4) : EReal := argBoxes c m (ix3 i j d)
/-- and its scores. -/
abbrev scoresOf (j : Fin 20000) (k : Fin 91) : EReal := argScores c m (ix3 i j k)

/-- The boxes are as launched when the host pads them. -/
theorem W1_boxes : W1 m c (Proc.devRef .tc main_arg0) = argBoxes c m := W1_of m c main_arg0 (by decide)

/-- The suppression's windows hold the image's boxes, largest scores and classes, padded. -/
theorem holds : Holds (boxesOf c m i) (scoresOf c m i) i (blk1 (W2 m c) 0 t) (blk1 (W2 m c) 1 t) (blk1 (W2 m c) 2 t) (blk1 (W2 m c) 3 t)
    (blk1 (W2 m c) 4 t) (blk1 (W2 m c) 5 t) where
  score := by
    have e (l : Fin 20480) : (blk1 (W2 m c) 0 t (ix2 i l) : EReal) = padScores (W1 m c (Proc.devRef .tc main_v0_0)) (ix2 i l) :=
      (blk1_scores (W2 m c) t i l).trans (congrFun (between_scores (W1 m c)) _)
    refine ⟨fun j => ?_, fun l h => ?_⟩
    · exact (e (real j)).trans <| (padScores_at _ i (real j)).trans <| (dif_pos j.isLt).trans (W1_scores c m i j)
    · exact (e l).trans <| (padScores_at _ i l).trans (dif_neg (by omega))
  cls j :=
    (blk1_classes (W2 m c) t i (real j)).trans <| (congrFun (between_classes (W1 m c)) _).trans <|
      (padClasses_at _ i (real j)).trans <| (dif_pos j.isLt).trans (W1_classes c m i j)
  box j := by
    have e := W1_boxes c m
    funext d
    match d with
    | 0 => exact (blk1_y1 (W2 m c) t i (real j)).trans <| (congrFun (between_y1 (W1 m c)) _).trans <|
        (coord_at _ 0 _ i j).trans (congrFun e _)
    | 1 => exact (blk1_x1 (W2 m c) t i (real j)).trans <| (congrFun (between_x1 (W1 m c)) _).trans <|
        (coord_at _ 1 _ i j).trans (congrFun e _)
    | 2 => exact (blk1_y2 (W2 m c) t i (real j)).trans <| (congrFun (between_y2 (W1 m c)) _).trans <|
        (coord_at _ 2 _ i j).trans (congrFun e _)
    | 3 => exact (blk1_x2 (W2 m c) t i (real j)).trans <| (congrFun (between_x2 (W1 m c)) _).trans <|
        (coord_at _ 3 _ i j).trans (congrFun e _)

/-- What the suppression leaves in an image is the per-image suppression after the hundred trips. -/
theorem after_end : After (boxesOf c m i) (scoresOf c m i) i 100 (end1 (W2 m c) t) := after_stAt (holds c m i t) 100 (le_refl _)

/-! ## The results -/

open Classical in
/-- A kept place's score is its trip's best, any other's −1; -/
theorem result_scores (s : Fin 100) : (W4 m c (Proc.devRef .tc main_v16) (ix2 i s) : EReal)
    = if Spec.Ok (boxesOf c m i) (scoresOf c m i) s.val then Spec.best (boxesOf c m i) (scoresOf c m i) s.val
      else Ideal.ofBits .f32 0xBF800000#32 := by
  have e : W3 m c (Proc.devRef .tc main_v15_0) = (end1 (W2 m c) point).2.1 :=
    (Pipeline.afterRegion_arr (dat1 c (W2 m c)) (W2 m c) launch1.win.arr_inj 6).trans (left_scores c (W2 m c) point)
  refine (congrFun (out_scores (W3 m c)) _).trans <| (slice_at _ i s).trans <| (congrFun e _).trans <|
    ((after_end c m i point).score ⟨s.val, by omega⟩).trans ?_
  exact if_congr (and_iff_right s.isLt) rfl rfl

open Classical in
/-- its class is the kept box's class, any other's −1; -/
theorem result_classes (s : Fin 100) : W4 m c (Proc.devRef .tc main_v26) (ix2 i s)
    = if Spec.Ok (boxesOf c m i) (scoresOf c m i) s.val
      then BitVec.ofNat 32 (Spec.cls (scoresOf c m i) (Spec.pick (boxesOf c m i) (scoresOf c m i) s.val)).val else 4294967295#32 := by
  have e : W3 m c (Proc.devRef .tc main_v15_5) = (end1 (W2 m c) point).2.2.2.2.2.2.1 :=
    (Pipeline.afterRegion_arr (dat1 c (W2 m c)) (W2 m c) launch1.win.arr_inj 11).trans (left_classes c (W2 m c) point)
  refine (congrFun (out_classes (W3 m c)) _).trans <| (slice_at _ i s).trans <| (congrFun e _).trans <|
    ((after_end c m i point).cls ⟨s.val, by omega⟩).trans ?_
  exact if_congr (and_iff_right s.isLt) rfl rfl

open Classical in
/-- its box is the kept box, any other's four coordinates −1; -/
theorem result_boxes (s : Fin 100) (d : Fin 4) : (W4 m c (Proc.devRef .tc main_v25) (ix3 i s d) : EReal)
    = if Spec.Ok (boxesOf c m i) (scoresOf c m i) s.val
      then boxesOf c m i (Spec.pick (boxesOf c m i) (scoresOf c m i) s.val) d else Ideal.ofBits .f32 0xBF800000#32 := by
  have out (w : Fin cfg1.W) := Pipeline.afterRegion_arr (dat1 c (W2 m c)) (W2 m c) launch1.win.arr_inj w
  have e0 : W3 m c (Proc.devRef .tc main_v15_1) = (end1 (W2 m c) point).2.2.1 := (out 7).trans (left_y1 c (W2 m c) point)
  have e1 : W3 m c (Proc.devRef .tc main_v15_2) = (end1 (W2 m c) point).2.2.2.1 := (out 8).trans (left_x1 c (W2 m c) point)
  have e2 : W3 m c (Proc.devRef .tc main_v15_3) = (end1 (W2 m c) point).2.2.2.2.1 := (out 9).trans (left_y2 c (W2 m c) point)
  have e3 : W3 m c (Proc.devRef .tc main_v15_4) = (end1 (W2 m c) point).2.2.2.2.2.1 := (out 10).trans (left_x2 c (W2 m c) point)
  have a := after_end c m i point
  refine (congrFun (out_boxes (W3 m c)) _).trans <| (boxes_at _ _ _ _ i s d).trans ?_
  match d with
  | 0 => exact (congrFun e0 _).trans <| (a.c0 ⟨s.val, by omega⟩).trans <| if_congr (and_iff_right s.isLt) rfl rfl
  | 1 => exact (congrFun e1 _).trans <| (a.c1 ⟨s.val, by omega⟩).trans <| if_congr (and_iff_right s.isLt) rfl rfl
  | 2 => exact (congrFun e2 _).trans <| (a.c2 ⟨s.val, by omega⟩).trans <| if_congr (and_iff_right s.isLt) rfl rfl
  | 3 => exact (congrFun e3 _).trans <| (a.c3 ⟨s.val, by omega⟩).trans <| if_congr (and_iff_right s.isLt) rfl rfl

/-- and an image's count is the number of its kept places. -/
theorem result_counts : W4 m c (Proc.devRef .tc main_v28) (ix1 i) = BitVec.ofNat 32 (Spec.number (boxesOf c m i) (scoresOf c m i) 100) := by
  have e : W3 m c (Proc.devRef .tc main_v15_6) = k1_pay1 (end1 (W2 m c) point).2.2.2.2.2.2.2 :=
    (Pipeline.afterRegion_arr (dat1 c (W2 m c)) (W2 m c) launch1.win.arr_inj 12).trans (left_counts c (W2 m c) point)
  exact (congrFun (out_counts (W3 m c)) _).trans <| (firstLane_at _ i).trans <| (congrFun e _).trans <|
    (counts_at i _ 0).trans (after_end c m i point).count
end

end Cert.KernelIdeal.Nms
-- ==== Proof.RefFirst.lean ====
/- The reference's arg-max reductions over the extended reals: each holds the first largest place of a row. -/
module

public import proofs.«01_k».proof.Proof.RefOut
public import proofs.«01_k».proof.Proof.Spec

@[expose] public section

set_option maxRecDepth 20000

noncomputable section

namespace Cert.RefMath

open Cert.ReferenceIdeal Cert.ReferenceIdeal.Gen Cert.RefRun Cert.First
open Idealize.ShloMosaic Idealize.ShloMosaic.TcCoe
open Idealize.ShloMosaic.StableHlo

/-- The pattern of minus infinity is the least value. -/
theorem ofBits_bot : Ideal.ofBits .f32 0xFF800000#32 = (⊥ : EReal) := by simp [Ideal.ofBits, Ideal.ieee]

/-- The arg-max's step picks one of its two pairs, before both. -/
theorem step_before (a b : EReal × BitVec 32) :
    ((reducer_argmax_f32_i32 (F := Ideal) a b : EReal × BitVec 32) = a ∨ (reducer_argmax_f32_i32 (F := Ideal) a b : EReal × BitVec 32) = b)
      ∧ Before (reducer_argmax_f32_i32 (F := Ideal) a b) a ∧ Before (reducer_argmax_f32_i32 (F := Ideal) a b) b := by
  have e : (reducer_argmax_f32_i32 (F := Ideal) a b : EReal × BitVec 32)
      = if b.1 < a.1 ∨ (a.1 = b.1 ∧ a.2.toInt < b.2.toInt) then a else b := by
    obtain ⟨a1, a2⟩ := a
    obtain ⟨b1, b2⟩ := b
    have h1 : (FloatOps.cmpf (F := Ideal) (φ := .f32) .ogt a1 b1) = BitVec.ofBool (decide (b1 < a1)) := rfl
    have h2 : (FloatOps.cmpf (F := Ideal) (φ := .f32) .une a1 a1) = 0#1 := by
      show BitVec.ofBool (decide (a1 ≠ a1)) = 0#1
      simp
    have h3 : (FloatOps.cmpf (F := Ideal) (φ := .f32) .oeq a1 b1) = BitVec.ofBool (decide (a1 = b1)) := rfl
    have h4 : IntOp.cmpi .slt a2 b2 = BitVec.ofBool (decide (a2.toInt < b2.toInt)) := rfl
    unfold reducer_argmax_f32_i32
    simp only [h1, h2, h3, h4]
    by_cases g : b1 < a1
    · have h5 : (a1 = b1) = False := eq_false fun e => (lt_irrefl _ (e ▸ g))
      simp [g, h5, IntOp.ori, IntOp.andi, Scalar.select]
    · by_cases g' : a1 = b1 <;> by_cases g'' : a2.toInt < b2.toInt <;>
        simp [g, g', g'', IntOp.ori, IntOp.andi, Scalar.select]
  rw [e]
  by_cases h : b.1 < a.1 ∨ (a.1 = b.1 ∧ a.2.toInt < b.2.toInt)
  · rw [if_pos h]
    refine ⟨Or.inl rfl, Before.refl _, ?_⟩
    rcases h with h | ⟨h, h'⟩
    · exact Or.inl h
    · exact Or.inr ⟨h.symm, h'.le⟩
  · rw [if_neg h]
    refine ⟨Or.inr rfl, ?_, Before.refl _⟩
    rw [not_or, not_lt, not_and, not_lt] at h
    rcases h.1.lt_or_eq with h' | h'
    · exact Or.inl h'
    · exact Or.inr ⟨h', h.2 h'⟩

/-- An arg-max at an index is a (value, place) pair of the row that reduces to it, or the least pair, before all of them. -/
theorem argReduce_before {s t : Shape} {axes : List (Fin s.rank)} (x : FVec Ideal s .f32) (y : IVec s 32) (h : s.ReducesTo axes t) (j : t.Idx) :
    let r : EReal × BitVec 32 := Host.argReduce (reducer_argmax_f32_i32 (F := Ideal)) x y (constant S_ .f32 0xFF800000#32) (constantI S_ 32 0#32) h h_S_ j
    (r = (⊥, 0#32) ∨ ∃ i, h.drop i = j ∧ r = (x i, y i)) ∧ ∀ i, h.drop i = j → Before r (x i, y i) := by
  intro r
  have e : r = (Host.argReduceFiber x y h j).foldl (reducer_argmax_f32_i32 (F := Ideal)) (⊥, 0#32) := by
    show Host.argReduce _ _ _ _ _ _ _ _ = _
    rw [Ideal.argReduce_eq_reduce2, Host.reduce2_eq_foldl_fiber]
    congr 2
  obtain ⟨h1, -, h3⟩ := foldl_before (reducer_argmax_f32_i32 (F := Ideal)) step_before (Host.argReduceFiber x y h j) (⊥, 0#32)
  rw [← e] at h1 h3
  refine ⟨?_, fun i hi => h3 _ ?_⟩
  · rcases h1 with h1 | h1
    · exact Or.inl h1
    · obtain ⟨n, hn, en⟩ := List.mem_map.1 h1
      exact Or.inr ⟨_, of_decide_eq_true (List.mem_filter.1 hn).2, en.symm⟩
  · refine List.mem_map.2 ⟨s.rowMajor i, List.mem_filter.2 ⟨List.mem_finRange _, ?_⟩, ?_⟩
    · simpa using hi
    · rw [Equiv.symm_apply_apply]

/-- An arg-max over the places of a row `row`, numbered in order, holds the first largest place. -/
theorem argReduce_first {s t : Shape} {axes : List (Fin s.rank)} (x : FVec Ideal s .f32) (y : IVec s 32) (h : s.ReducesTo axes t) (j : t.Idx)
    {n : ℕ} [NeZero n] (hn : n < 2147483647) (row : Fin n → s.Idx) (hrow : ∀ k, h.drop (row k) = j) (hall : ∀ q, h.drop q = j → ∃ k, q = row k)
    (hy : ∀ k, y (row k) = BitVec.ofNat 32 k.val) :
    (Host.argReduce (reducer_argmax_f32_i32 (F := Ideal)) x y (constant S_ .f32 0xFF800000#32) (constantI S_ 32 0#32) h h_S_ j).2
      = BitVec.ofNat 32 (first (fun k => (x (row k) : EReal))).val := by
  obtain ⟨h1, h2⟩ := argReduce_before x y h j
  refine place_eq (fun k => (x (row k) : EReal)) hn _ ?_ (fun k => ?_)
  · rcases h1 with h1 | ⟨q, hq, e⟩
    · exact Or.inl h1
    · obtain ⟨k, rfl⟩ := hall q hq
      exact Or.inr ⟨k, by rw [e, hy]⟩
  · have := h2 (row k) (hrow k)
    rwa [hy] at this

/-- The reference's pick of an image is the first largest live score. -/
theorem pick_at (live : Arr Ideal S8x20000 .f32) (i : Fin 8) :
    pick live (ix1 i) = BitVec.ofNat 32 (first (fun j : Fin 20000 => (live (ix2 i j) : EReal))).val := by
  have e : pick live = fun j => (Host.argReduce (reducer_argmax_f32_i32 (F := Ideal)) live (iotaInDim S8x20000 32 1)
    (constant S_ .f32 0xFF800000#32) (constantI S_ 32 0#32) reducesTo_S8x20000_S8_d1 h_S_ j).2 := rfl
  rw [e]
  refine argReduce_first live _ reducesTo_S8x20000_S8_d1 (ix1 i) (by norm_num) (fun j => ix2 i j) (fun j => ?_) (fun q hq => ⟨q 1, ?_⟩) (fun j => ?_)
  · funext a; match a with | ⟨0, _⟩ => rfl
  · funext a
    match a with
    | ⟨0, _⟩ => exact congrFun hq ⟨0, Nat.one_pos⟩
    | ⟨1, _⟩ => rfl
  · pointwise

/-- The reference's class of a box is the first class of its largest score. -/
theorem classes_at (sc : Arr Ideal S8x20000x91 .f32) (i : Fin 8) (j : Fin 20000) :
    classes sc (ix2 i j) = BitVec.ofNat 32 (first (fun k : Fin 91 => (sc (ix3 i j k) : EReal))).val := by
  have e : classes sc = fun j => (Host.argReduce (reducer_argmax_f32_i32 (F := Ideal)) sc (iotaInDim S8x20000x91 32 2)
    (constant S_ .f32 0xFF800000#32) (constantI S_ 32 0#32) reducesTo_S8x20000x91_S8x20000_d2 h_S_ j).2 := rfl
  rw [e]
  refine argReduce_first sc _ reducesTo_S8x20000x91_S8x20000_d2 (ix2 i j) (by norm_num) (fun k => ix3 i j k) (fun k => ?_) (fun q hq => ⟨q 2, ?_⟩) (fun k => ?_)
  · funext a; match a with | ⟨0, _⟩ => rfl | ⟨1, _⟩ => rfl
  · funext a
    match a with
    | ⟨0, _⟩ => exact congrFun hq ⟨0, Nat.two_pos⟩
    | ⟨1, _⟩ => exact congrFun hq ⟨1, Nat.one_lt_two⟩
    | ⟨2, _⟩ => rfl
  · pointwise

end Cert.RefMath
-- ==== Proof.RefGather.lean ====
/- The reference's gathers read at an index: one operand row per image, the place on the row an index of the image. -/
module

public import proofs.«01_k».proof.Proof.RefOut
public import proofs.«01_k».proof.Proof.First
public import Idealize.ShloMosaic.Lib.Pointwise

@[expose] public section

set_option maxRecDepth 20000

noncomputable section

namespace Cert.RefMath

open Cert.ReferenceIdeal Cert.ReferenceIdeal.Gen
open Idealize.ShloMosaic Idealize.ShloMosaic.TcCoe

/-- Gathering one element of each image's row per index of the image. -/
abbrev rowDims (n : ℕ) (wf : GatherDims.WF ⟨2, ![8, 20000]⟩ ⟨3, ![8, n, 1]⟩ ⟨2, ![8, n]⟩ [] [1] [0] [1] [0] 2 ![1, 1]) :
    GatherDims ⟨2, ![8, 20000]⟩ ⟨3, ![8, n, 1]⟩ ⟨2, ![8, n]⟩ where
  offsetDims := []
  collapsedSliceDims := [1]
  operandBatchingDims := [0]
  startIndicesBatchingDims := [0]
  startIndexMap := [1]
  indexVectorDim := 2
  sliceSizes := ![1, 1]
  wf := wf

/-- Such a gather at an index: the row's element at the index, read signed and kept inside the row. -/
theorem gather_row {α : Type} {n : ℕ} (wf : GatherDims.WF ⟨2, ![8, 20000]⟩ ⟨3, ![8, n, 1]⟩ ⟨2, ![8, n]⟩ [] [1] [0] [1] [0] 2 ![1, 1])
    (x : (⟨2, ![8, 20000]⟩ : Shape).Idx → α) (idx : IVec ⟨3, ![8, n, 1]⟩ 32) (i : Fin 8) (k : Fin n) :
    Host.gather (rowDims n wf) x idx (ix2 i k) = x (ix2 i ⟨min (idx (ix3 i k 0)).toInt.toNat 19999, by omega⟩) := by
  unfold Host.gather
  congr 1
  funext a
  refine Fin.ext ?_
  show (rowDims n wf).start (ix2 i k) idx a + (rowDims n wf).batchCoord (ix2 i k) a + (rowDims n wf).offCoord (ix2 i k) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact dif_pos (List.mem_singleton.mpr rfl)
  | ⟨1, _⟩ =>
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    refine (dif_pos (show (1 : Fin 2) ∈ (rowDims n wf).startIndexMap from List.mem_singleton.mpr rfl)).trans ?_
    have hsi : (rowDims n wf).siIdx (ix2 i k) ⟨List.idxOf (1 : Fin 2) (rowDims n wf).startIndexMap,
        List.idxOf_lt_length_iff.2 (List.mem_singleton.mpr rfl)⟩ = ix3 i k 0 := by
      funext b; refine Fin.ext ?_
      match b with
      | ⟨0, _⟩ => rfl
      | ⟨1, _⟩ => rfl
      | ⟨2, _⟩ => rfl
    exact congrArg (fun q => min (idx q).toInt.toNat 19999) hsi

/-- Reading the word of a place back signed, kept inside the row, is the place. -/
theorem clamp_place {n : ℕ} (h : n < 20000) : min (BitVec.ofNat 32 n).toInt.toNat 19999 = n := by
  rw [First.toInt_ofNat (k := n) (by omega)]; omega

/-- Such a gather whose index is the word of a place takes the row's element there. -/
theorem gather_row_place {α : Type} {n : ℕ} (wf : GatherDims.WF ⟨2, ![8, 20000]⟩ ⟨3, ![8, n, 1]⟩ ⟨2, ![8, n]⟩ [] [1] [0] [1] [0] 2 ![1, 1])
    (x : (⟨2, ![8, 20000]⟩ : Shape).Idx → α) (idx : IVec ⟨3, ![8, n, 1]⟩ 32) (i : Fin 8) (k : Fin n) (p : Fin 20000)
    (h : idx (ix3 i k 0) = BitVec.ofNat 32 p.val) : Host.gather (rowDims n wf) x idx (ix2 i k) = x (ix2 i p) := by
  rw [gather_row]
  exact congrArg (fun q => x (ix2 i q)) (Fin.ext ((congrArg (fun w : BitVec 32 => min w.toInt.toNat 19999) h).trans (clamp_place p.isLt)))

/-- Gathering the four elements of one box of each image per index of the image. -/
abbrev boxDims (n : ℕ) (wf : GatherDims.WF ⟨3, ![8, 20000, 4]⟩ ⟨3, ![8, n, 1]⟩ ⟨3, ![8, n, 4]⟩ [2] [1] [0] [1] [0] 2 ![1, 1, 4]) :
    GatherDims ⟨3, ![8, 20000, 4]⟩ ⟨3, ![8, n, 1]⟩ ⟨3, ![8, n, 4]⟩ where
  offsetDims := [2]
  collapsedSliceDims := [1]
  operandBatchingDims := [0]
  startIndicesBatchingDims := [0]
  startIndexMap := [1]
  indexVectorDim := 2
  sliceSizes := ![1, 1, 4]
  wf := wf

/-- Such a gather at an index: the element of the box at the index, read signed and kept inside the image's boxes. -/
theorem gather_box {α : Type} {n : ℕ} (wf : GatherDims.WF ⟨3, ![8, 20000, 4]⟩ ⟨3, ![8, n, 1]⟩ ⟨3, ![8, n, 4]⟩ [2] [1] [0] [1] [0] 2 ![1, 1, 4])
    (x : (⟨3, ![8, 20000, 4]⟩ : Shape).Idx → α) (idx : IVec ⟨3, ![8, n, 1]⟩ 32) (i : Fin 8) (k : Fin n) (d : Fin 4) :
    Host.gather (boxDims n wf) x idx (ix3 i k d) = x (ix3 i ⟨min (idx (ix3 i k 0)).toInt.toNat 19999, by omega⟩ d) := by
  unfold Host.gather
  congr 1
  funext a
  refine Fin.ext ?_
  show (boxDims n wf).start (ix3 i k d) idx a + (boxDims n wf).batchCoord (ix3 i k d) a + (boxDims n wf).offCoord (ix3 i k d) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact dif_pos (List.mem_singleton.mpr rfl)
  | ⟨1, _⟩ =>
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    refine (dif_pos (show (1 : Fin 3) ∈ (boxDims n wf).startIndexMap from List.mem_singleton.mpr rfl)).trans ?_
    have hsi : (boxDims n wf).siIdx (ix3 i k d) ⟨List.idxOf (1 : Fin 3) (boxDims n wf).startIndexMap,
        List.idxOf_lt_length_iff.2 (List.mem_singleton.mpr rfl)⟩ = ix3 i k 0 := by
      funext b; refine Fin.ext ?_
      match b with
      | ⟨0, _⟩ => rfl
      | ⟨1, _⟩ => rfl
      | ⟨2, _⟩ => rfl
    exact congrArg (fun q => min (idx q).toInt.toNat 19999) hsi
  | ⟨2, _⟩ =>
    rw [GatherDims.batchCoord_eq_zero _ _ _ (fun h => by simp at h)]
    rw [show (boxDims n wf).start (ix3 i k d) idx ⟨2, by decide⟩ = 0 from
      dif_neg (show ¬ (2 : Fin 3) ∈ (boxDims n wf).startIndexMap from by simp)]
    simp only [Nat.zero_add]
    unfold GatherDims.offCoord
    exact dif_pos ((GatherDims.mem_sKept _ _).mpr ⟨by simp, by simp⟩)

/-- Such a gather whose index is the word of a place takes the box there. -/
theorem gather_box_place {α : Type} {n : ℕ} (wf : GatherDims.WF ⟨3, ![8, 20000, 4]⟩ ⟨3, ![8, n, 1]⟩ ⟨3, ![8, n, 4]⟩ [2] [1] [0] [1] [0] 2 ![1, 1, 4])
    (x : (⟨3, ![8, 20000, 4]⟩ : Shape).Idx → α) (idx : IVec ⟨3, ![8, n, 1]⟩ 32) (i : Fin 8) (k : Fin n) (d : Fin 4) (p : Fin 20000)
    (h : idx (ix3 i k 0) = BitVec.ofNat 32 p.val) : Host.gather (boxDims n wf) x idx (ix3 i k d) = x (ix3 i p d) := by
  rw [gather_box]
  exact congrArg (fun q => x (ix3 i q d)) (Fin.ext ((congrArg (fun w : BitVec 32 => min w.toInt.toNat 19999) h).trans (clamp_place p.isLt)))

end Cert.RefMath
-- ==== Proof.RefMath.lean ====
/- The reference's arrays read at an index: one trip, the trips one after the other, and the tables they fill. -/
module

public import proofs.«01_k».proof.Proof.RefFirst
public import proofs.«01_k».proof.Proof.RefGather
public import Idealize.ShloMosaic.Lib.WordCmp

@[expose] public section

set_option maxRecDepth 20000

noncomputable section

namespace Cert.RefMath

open Cert.ReferenceIdeal Cert.ReferenceIdeal.Gen Cert.RefRun Cert.First
open Idealize.ShloMosaic Idealize.ShloMosaic.TcCoe
open Idealize.ShloMosaic.StableHlo

/-! ## Words -/

/-- A place of a row, as the gathers take it: not negative, so unchanged by the wrap of a negative index. -/
theorem wrap_place {n : ℕ} (h : n < 20000) :
    Scalar.select (IntOp.cmpi .slt (BitVec.ofNat 32 n) 0#32) (IntOp.addi (BitVec.ofNat 32 n) 20000#32) (BitVec.ofNat 32 n) = BitVec.ofNat 32 n := by
  have e : IntOp.cmpi .slt (BitVec.ofNat 32 n) 0#32 = BitVec.ofBool false := by
    unfold IntOp.cmpi
    simp only [BitVec.slt, toInt_ofNat (k := n) (by omega)]
    congr 1
  rw [e]; rfl

/-- A select on a decided bit. -/
theorem select_ofBool {α : Type} (p : Prop) [Decidable p] (a b : α) : Scalar.select (BitVec.ofBool (decide p)) a b = if p then a else b := by
  by_cases h : p <;> simp [h, Scalar.select]

/-- The suppressed value, as the reference's selects spell it. -/
theorem neg_read : (id (constant (F := Ideal) S_ .f32 3463342888#32) ix0 : EReal) = Spec.neg := rfl

/-! ## One trip -/

/-- The reference's class score of a box is its largest score. -/
theorem tops_at (sc : Arr Ideal S8x20000x91 .f32) (i : Fin 8) (j : Fin 20000) :
    (tops sc (ix2 i j) : EReal) = Finset.univ.fold max ⊥ (fun k : Fin 91 => (sc (ix3 i j k) : EReal)) := by
  have e : tops sc = Host.reduce (FloatOps.maximumf (F := Ideal) (φ := .f32)) sc (constant (F := Ideal) S_ .f32 0xFF800000#32) reducesTo_S8x20000x91_S8x20000_d2 h_S_ := rfl
  rw [e]
  pointwise
  rw [ofBits_bot]

/-- Suppressing the scores below the threshold, at an index. -/
theorem thresholded_at (t : Arr Ideal S8x20000 .f32) (i : Fin 8) (j : Fin 20000) :
    (select (cmpf (F := Ideal) (φ := .f32) .oge t (lanes (F := Ideal) 0x3D4CCCCD#32)) t (negLanes (F := Ideal)) (ix2 i j) : EReal)
      = if Spec.low ≤ (t (ix2 i j) : EReal) then (t (ix2 i j) : EReal) else Spec.neg := by
  pointwise
  rw [neg_read]

/-- The live scores at the loop's entry: the class scores, those below the threshold suppressed. -/
theorem live0_at (sc : Arr Ideal S8x20000x91 .f32) (i : Fin 8) (j : Fin 20000) :
    (live0 sc (ix2 i j) : EReal) = if Spec.low ≤ (tops sc (ix2 i j) : EReal) then (tops sc (ix2 i j) : EReal) else Spec.neg :=
  thresholded_at (tops sc) i j

variable (live : Arr Ideal S8x20000 .f32) (i : Fin 8) {p : Fin 20000} (hp : pick live (ix1 i) = BitVec.ofNat 32 p.val)
include hp

/-- The start index of a trip's gathers is the picked place; -/
theorem pickIx_at : pickIx live (ix3 i 0 0) = BitVec.ofNat 32 p.val := by
  pointwise [pickIx]
  rw [hp, wrap_place p.isLt]

/-- the trip's best score is the one at that place; -/
theorem best_at : (best live (ix1 i) : EReal) = live (ix2 i p) := by
  pointwise [best]
  exact gather_row_place _ live (pickIx live) i 0 p (pickIx_at live i hp)

/-- it is valid where that is above half the suppressed value; -/
theorem valid_at : valid live (ix1 i) = BitVec.ofBool (decide (Spec.negHalf < (live (ix2 i p) : EReal))) := by
  pointwise [valid]
  rw [best_at live i hp]

/-- the trip's box is the one at that place; -/
theorem box_at (bx : Arr Ideal S8x20000x4 .f32) (d : Fin 4) : (box bx live (ix2 i d) : EReal) = bx (ix3 i p d) := by
  pointwise [box]
  exact gather_box_place _ bx (pickIx live) i 0 d p (pickIx_at live i hp)

omit hp in
/-- the overlap ratio of a box with every box is the specification's; -/
theorem iou_at (bx : Arr Ideal S8x20000x4 .f32) (b : Arr Ideal S8x4 .f32) (j : Fin 20000) :
    (iou bx b (ix2 i j) : EReal) = Spec.iou (fun d => b (ix2 i d)) (fun d => bx (ix3 i j d)) := by
  pointwise [iou, inter, b0, b1, b2, b3, c0, c1, c2, c3]
  rfl

/-- and after the trip the picked place and all that overlap it too much are suppressed. -/
theorem newLive_at (bx : Arr Ideal S8x20000x4 .f32) (j : Fin 20000) :
    (newLive bx live (ix2 i j) : EReal) = if j = p then Spec.neg
      else if Spec.half < Spec.iou (fun d => bx (ix3 i p d)) (fun d => bx (ix3 i j d)) then Spec.neg else live (ix2 i j) := by
  pointwise [newLive]
  rw [hp, iou_at]
  have e : IntOp.cmpi .eq (BitVec.ofNat 32 j.val) (BitVec.ofNat 32 p.val) = BitVec.ofBool (decide (j = p)) := by
    have := j.isLt; have := p.isLt
    simp (disch := omega) only [hlo_ix, Fin.ext_iff]
  rw [e, select_ofBool]
  have eb : (fun d => (box bx live (ix2 i d) : EReal)) = fun d => bx (ix3 i p d) := funext fun d => box_at live i hp bx d
  rw [eb]
  rfl

end Cert.RefMath
-- ==== Proof.RefTables.lean ====
/- The reference's live scores and tables per image, as the per-image suppression states them. -/
module

public import proofs.«01_k».proof.Proof.RefMath
public import Mathlib.Data.BitVec

@[expose] public section

set_option maxRecDepth 20000

noncomputable section

namespace Cert.RefMath

open Cert.ReferenceIdeal Cert.ReferenceIdeal.Gen Cert.RefRun Cert.First
open Idealize.ShloMosaic Idealize.ShloMosaic.TcCoe
open Idealize.ShloMosaic.StableHlo

section Trips
variable (bx : Arr Ideal S8x20000x4 .f32) (sc : Arr Ideal S8x20000x91 .f32) (i : Fin 8)

/-- The boxes of one image. -/
abbrev boxesOf : Fin 20000 → Fin 4 → EReal := fun j d => bx (ix3 i j d)
/-- The scores of one image. -/
abbrev scoresOf : Fin 20000 → Fin 91 → EReal := fun j k => sc (ix3 i j k)

/-- The reference's live scores of an image before every trip. -/
theorem liveAt_at : ∀ (k : ℕ) (j : Fin 20000), (liveAt bx sc k (ix2 i j) : EReal) = Spec.live (boxesOf bx i) (scoresOf sc i) k j
  | 0, j => by
    refine (live0_at sc i j).trans ?_
    rw [tops_at, fold_max]
    rfl
  | k + 1, j => by
    have hrow : (fun j : Fin 20000 => (liveAt bx sc k (ix2 i j) : EReal)) = Spec.live (boxesOf bx i) (scoresOf sc i) k :=
      funext fun j => liveAt_at k j
    have hp : pick (liveAt bx sc k) (ix1 i) = BitVec.ofNat 32 (Spec.pick (boxesOf bx i) (scoresOf sc i) k).val := by
      rw [pick_at, hrow]; rfl
    refine (newLive_at (liveAt bx sc k) i hp bx j).trans ?_
    rw [Spec.live_succ, liveAt_at k j]

/-- The reference's pick of every trip. -/
theorem pickAt_at (k : ℕ) : pick (liveAt bx sc k) (ix1 i) = BitVec.ofNat 32 (Spec.pick (boxesOf bx i) (scoresOf sc i) k).val := by
  rw [pick_at, show (fun j : Fin 20000 => (liveAt bx sc k (ix2 i j) : EReal)) = Spec.live (boxesOf bx i) (scoresOf sc i) k from
    funext fun j => liveAt_at bx sc i k j]
  rfl

/-- The score of every pick. -/
theorem bestAt_at (k : ℕ) : (best (liveAt bx sc k) (ix1 i) : EReal) = Spec.best (boxesOf bx i) (scoresOf sc i) k :=
  (best_at (liveAt bx sc k) i (pickAt_at bx sc i k)).trans (liveAt_at bx sc i k _)

open Classical in
/-- Whether every pick is valid. -/
theorem validAt_at (k : ℕ) :
    valid (liveAt bx sc k) (ix1 i) = BitVec.ofBool (decide (Spec.Ok (boxesOf bx i) (scoresOf sc i) k)) := by
  refine (valid_at (liveAt bx sc k) i (pickAt_at bx sc i k)).trans ?_
  rw [liveAt_at bx sc i k]
  simp only [Spec.Ok, Spec.best]
  congr
end Trips

/-! ## Tables -/

/-- Writing the row numbered `k` of a table, at an index. -/
theorem setRow_at {e : EltTy} (T : Arr Ideal S100x8 e) (x : Arr Ideal S8 e) {k : ℕ} (hk : k < 100) (t : Fin 100) (i : Fin 8) :
    setRow T x (fun _ => Scf.iv 0#32 1#32 k : Arr Ideal S_ .i32) (ix2 t i) = if t.val = k then x (ix1 i) else T (ix2 t i) := by
  have h0 : Host.clampedStart S100x8 S1x8 (by rfl) (fun b => BitVec.toInt
      ((![(fun _ => Scf.iv 0#32 1#32 k : Arr Ideal S_ .i32), constantI S_ 32 0#32] : Fin 2 → Arr Ideal S_ .i32) b (Shape.Idx.first h_S_))) 0 = k := by
    refine Host.clampedStart_of_le _ _ _ _ ?_ ?_
    · show (0#32 + BitVec.ofNat 32 k * 1#32).toInt = k
      rw [BitVec.zero_add, BitVec.mul_one, toInt_ofNat (k := k) (by omega)]
    · show k + 1 ≤ 100
      omega
  have h1 : Host.clampedStart S100x8 S1x8 (by rfl) (fun b => BitVec.toInt
      ((![(fun _ => Scf.iv 0#32 1#32 k : Arr Ideal S_ .i32), constantI S_ 32 0#32] : Fin 2 → Arr Ideal S_ .i32) b (Shape.Idx.first h_S_))) 1 = 0 := by
    refine Host.clampedStart_of_le _ _ _ _ rfl ?_
    show 0 + 8 ≤ 8
    omega
  pointwise [setRow]
  by_cases h : t.val = k
  · rw [if_pos h, dif_pos ⟨⟨h0.trans_le h.ge, (h.trans_lt (Nat.lt_succ_self k)).trans_eq (congrArg (· + 1) h0.symm)⟩, h1.trans_le (Nat.zero_le _)⟩]
    congr 2
  · rw [if_neg h, dif_neg]
    rintro ⟨⟨a, b⟩, -⟩
    rw [h0] at a b
    omega

/-- A table of rows after `k` trips, at an index. -/
theorem tableAt_at {e : EltTy} (z : Arr Ideal S100x8 e) (f : ℕ → Arr Ideal S8 e) (t : Fin 100) (i : Fin 8) :
    ∀ k, k ≤ 100 → tableAt z f k (ix2 t i) = if t.val < k then f t.val (ix1 i) else z (ix2 t i)
  | 0, _ => by rw [if_neg (Nat.not_lt_zero _)]; rfl
  | k + 1, hk => by
    refine (setRow_at (tableAt z f k) (f k) (by omega) t i).trans ?_
    rw [tableAt_at z f t i k (by omega)]
    by_cases h : t.val = k
    · rw [if_pos h, if_pos (by omega), h]
    · rw [if_neg h]
      by_cases h' : t.val < k
      · rw [if_pos h', if_pos (by omega)]
      · rw [if_neg h', if_neg (by omega)]

/-- A table of a row per trip after all the trips. -/
theorem tableAt_all {e : EltTy} (z : Arr Ideal S100x8 e) (f : ℕ → Arr Ideal S8 e) (t : Fin 100) (i : Fin 8) :
    tableAt z f 100 (ix2 t i) = f t.val (ix1 i) := by
  rw [tableAt_at z f t i 100 le_rfl, if_pos t.isLt]

/-! ## The results -/

/-- Adding words up is their sum. -/
theorem fold_addi {n : ℕ} (f : Fin n → BitVec 32) : Finset.univ.fold IntOp.addi 0#32 f = ∑ k, f k := by
  have e : ∀ s : Finset (Fin n), s.fold IntOp.addi 0#32 f = ∑ k ∈ s, f k := by
    intro s
    induction s using Finset.cons_induction with
    | empty => rfl
    | cons a s ha ih => rw [Finset.fold_cons, Finset.sum_cons, ih]; rfl
  exact e _

open Classical in
/-- Adding up the marks of the valid trips counts them. -/
theorem sum_valid (bx : Fin 20000 → Fin 4 → EReal) (sc : Fin 20000 → Fin 91 → EReal) : ∀ n : ℕ,
    ∑ k : Fin n, (BitVec.ofBool (decide (Spec.Ok bx sc k.val))).setWidth 32 = BitVec.ofNat 32 (Spec.number bx sc n)
  | 0 => rfl
  | n + 1 => by
    rw [Fin.sum_univ_castSucc, Spec.number_succ _ _ _ (Classical.dec _)]
    have ih := sum_valid bx sc n
    simp only [Fin.val_castSucc, Fin.val_last]
    rw [ih]
    by_cases h : Spec.Ok bx sc n
    · rw [if_pos h, BitVec.ofNat_add]; simp [h]
    · rw [if_neg h]; simp [h]

variable (bx : Arr Ideal S8x20000x4 .f32) (sc : Arr Ideal S8x20000x91 .f32) (i : Fin 8)

/-- The number returned for an image is the sum of its trips' validity. -/
theorem count_at (va : Arr Ideal S100x8 .i1) :
    Cert.RefRun.count va (ix1 i) = Finset.univ.fold IntOp.addi 0#32 (fun t : Fin 100 => (va (ix2 t i)).setWidth 32) := by
  pointwise [Cert.RefRun.count]

/-- The number returned for an image. -/
theorem countAt_at : Cert.RefRun.count (validAt bx sc 100) (ix1 i) = BitVec.ofNat 32 (Spec.number (boxesOf bx i) (scoresOf sc i) 100) := by
  classical
  rw [count_at, fold_addi, ← sum_valid]
  refine Finset.sum_congr rfl fun t _ => ?_
  rw [validAt, tableAt_all, validAt_at]

open Classical in
/-- Which places of the output are filled: those of the valid trips. -/
theorem filledAt_at (s : Fin 100) : filled (validAt bx sc 100) (ix2 i s) = BitVec.ofBool (decide (Spec.Ok (boxesOf bx i) (scoresOf sc i) s.val)) := by
  have h := Spec.number_le (boxesOf bx i) (scoresOf sc i) 100
  pointwise [filled]
  rw [countAt_at]
  have hs := s.isLt
  simp (disch := omega) only [hlo_ix]
  simp only [Spec.lt_number_iff _ _ hs]

/-- The index taken at a place is the pick of its trip, -/
theorem takeIx_at (ix : Arr Ideal S100x8 .i32) (s : Fin 100) {p : Fin 20000} (hp : ix (ix2 s i) = BitVec.ofNat 32 p.val) :
    takeIx ix (ix3 i s 0) = BitVec.ofNat 32 p.val := by
  pointwise [takeIx]
  rw [hp, wrap_place p.isLt]

/-- which lies in the array. -/
theorem inside_at (ix : Arr Ideal S100x8 .i32) (s : Fin 100) {p : Fin 20000} (hp : ix (ix2 s i) = BitVec.ofNat 32 p.val) :
    inside ix (ix2 i s) = 1#1 := by
  pointwise [inside]
  have e : ∀ x : Fin 1, IntOp.andi (IntOp.cmpi .sge (takeIx ix (ix3 i s x)) 0#32) (IntOp.cmpi .sle (takeIx ix (ix3 i s x)) 19999#32) = 1#1 := by
    intro x
    have hp' : takeIx ix (ix3 i s x) = BitVec.ofNat 32 p.val := by
      rw [Subsingleton.elim x 0]; exact takeIx_at i ix s hp
    rw [hp']
    have := p.isLt
    simp (disch := omega) only [hlo_ix]
    simp
    omega
  simp only [e]
  rfl

/-- The table of picks holds the specification's. -/
theorem idxAt_at (s : Fin 100) : Cert.RefRun.idxAt bx sc 100 (ix2 s i) = BitVec.ofNat 32 (Spec.pick (boxesOf bx i) (scoresOf sc i) s.val).val := by
  rw [Cert.RefRun.idxAt, tableAt_all, pickAt_at]

open Classical in
/-- The boxes returned for an image. -/
theorem outBoxes_at (s : Fin 100) (d : Fin 4) : (outBoxes bx (Cert.RefRun.idxAt bx sc 100) (validAt bx sc 100) (ix3 i s d) : EReal)
    = if Spec.Ok (boxesOf bx i) (scoresOf sc i) s.val then boxesOf bx i (Spec.pick (boxesOf bx i) (scoresOf sc i) s.val) d
      else Ideal.ofBits .f32 0xBF800000#32 := by
  pointwise [outBoxes]
  rw [filledAt_at, select_ofBool, inside_at i _ s (idxAt_at bx sc i s)]
  refine if_congr Iff.rfl ?_ rfl
  exact gather_box_place _ bx (takeIx (Cert.RefRun.idxAt bx sc 100)) i s d _ (takeIx_at i _ s (idxAt_at bx sc i s))

open Classical in
/-- The entries of any class array returned for an image. -/
theorem outEntries_at (cl : Arr Ideal S8x20000 .i32) (s : Fin 100) : outClasses cl (Cert.RefRun.idxAt bx sc 100) (validAt bx sc 100) (ix2 i s)
    = if Spec.Ok (boxesOf bx i) (scoresOf sc i) s.val then cl (ix2 i (Spec.pick (boxesOf bx i) (scoresOf sc i) s.val)) else 4294967295#32 := by
  pointwise [outClasses]
  rw [filledAt_at, select_ofBool, inside_at i _ s (idxAt_at bx sc i s)]
  refine if_congr Iff.rfl ?_ rfl
  exact gather_row_place _ cl (takeIx (Cert.RefRun.idxAt bx sc 100)) i s _ (takeIx_at i _ s (idxAt_at bx sc i s))

open Classical in
/-- The classes returned for an image. -/
theorem outClasses_at (s : Fin 100) : outClasses (classes sc) (Cert.RefRun.idxAt bx sc 100) (validAt bx sc 100) (ix2 i s)
    = if Spec.Ok (boxesOf bx i) (scoresOf sc i) s.val
      then BitVec.ofNat 32 (Spec.cls (scoresOf sc i) (Spec.pick (boxesOf bx i) (scoresOf sc i) s.val)).val
      else 4294967295#32 :=
  (outEntries_at bx sc i (classes sc) s).trans (if_congr Iff.rfl (classes_at sc i _) rfl)

open Classical in
/-- The scores returned for an image. -/
theorem outScores_at (s : Fin 100) : (outScores (bestAt bx sc 100) (validAt bx sc 100) (ix2 i s) : EReal)
    = if Spec.Ok (boxesOf bx i) (scoresOf sc i) s.val then Spec.best (boxesOf bx i) (scoresOf sc i) s.val
      else Ideal.ofBits .f32 0xBF800000#32 := by
  pointwise [outScores]
  rw [filledAt_at, select_ofBool, bestAt, tableAt_all, bestAt_at]

end Cert.RefMath
-- ==== Proof.Equation.lean ====
/- The equation: on one memory the kernel's four results are the reference's. -/
module

public import proofs.«01_k».proof.Defs
public import proofs.«01_k».proof.Proof.PI.Results
public import proofs.«01_k».proof.Proof.RefTables

@[expose] public section

set_option maxRecDepth 20000

noncomputable section

namespace Cert.Equation

open Cert.KernelIdeal
open Idealize.ShloMosaic Idealize.ShloMosaic.TcCoe Idealize.SL.Sem

variable (c : Dev nD) (m : (ℓ : Loc nD τ sig) → Buf (Elt Ideal) ℓ)
  (bx : Cert.RefRun.Arr Ideal S8x20000x4 .f32) (sc : Cert.RefRun.Arr Ideal S8x20000x91 .f32)
  (hb : bx = Nms.argBoxes c m) (hs : sc = Nms.argScores c m)

include hb hs

/-- The scores agree, -/
theorem scores : Nms.W4 m c (Proc.devRef .tc main_v16) = Cert.RefRun.outScores (Cert.RefRun.bestAt bx sc 100) (Cert.RefRun.validAt bx sc 100) := by
  classical
  subst hb hs
  refine funext fun q : S8x100.Idx => ?_
  rw [eq_ix2 q]
  exact (Nms.result_scores c m (q 0) (q 1)).trans (Cert.RefMath.outScores_at _ _ (q 0) (q 1)).symm

/-- the boxes, -/
theorem boxes : Nms.W4 m c (Proc.devRef .tc main_v25)
    = Cert.RefRun.outBoxes bx (Cert.RefRun.idxAt bx sc 100) (Cert.RefRun.validAt bx sc 100) := by
  classical
  subst hb hs
  refine funext fun q : S8x100x4.Idx => ?_
  rw [eq_ix3 q]
  exact (Nms.result_boxes c m (q 0) (q 1) (q 2)).trans (Cert.RefMath.outBoxes_at _ _ (q 0) (q 1) (q 2)).symm

/-- the classes -/
theorem classes : Nms.W4 m c (Proc.devRef .tc main_v26)
    = Cert.RefRun.outClasses (Cert.RefRun.classes sc) (Cert.RefRun.idxAt bx sc 100) (Cert.RefRun.validAt bx sc 100) := by
  classical
  subst hb hs
  refine funext fun q : S8x100.Idx => ?_
  rw [eq_ix2 q]
  exact (Nms.result_classes c m (q 0) (q 1)).trans (Cert.RefMath.outClasses_at _ _ (q 0) (q 1)).symm

/-- and the counts. -/
theorem counts : Nms.W4 m c (Proc.devRef .tc main_v28) = Cert.RefRun.count (Cert.RefRun.validAt bx sc 100) := by
  subst hb hs
  refine funext fun q : S8.Idx => ?_
  rw [eq_ix1 q]
  exact (Nms.result_counts c m (q 0)).trans (Cert.RefMath.countAt_at _ _ (q 0)).symm

omit hb hs in
/-- Run on the same arguments, the kernel and the reference end with the same four results. -/
theorem algebraic : Cert.algebraic_KernelIdeal_ReferenceIdeal (hKernelIdeal := Cert.KernelIdeal.Gen.facts) (hReferenceIdeal := Cert.ReferenceIdeal.Gen.facts) := by
  intro m ρ m' ρ' _ hm
  refine ⟨fun c => Nms.W4 m c (Proc.devRef .tc main_v16), fun c => Nms.W4 m c (Proc.devRef .tc main_v25), fun c => Nms.W4 m c (Proc.devRef .tc main_v26),
    fun c => Nms.W4 m c (Proc.devRef .tc main_v28), (θ_run _ _ _).mono (fun r h => h.1) (Nms.run (F := Ideal) m ρ),
    (θ_run _ _ _).mono (fun r h c => ?_) (Cert.RefRun.run (F := Ideal) m' ρ')⟩
  obtain ⟨h0, h1, h2, h3, ha⟩ := h.1 c
  have hb : Cert.RefRun.argBoxes m' c = Nms.argBoxes c m := (hm c).1
  have hs : Cert.RefRun.argScores m' c = Nms.argScores c m := (hm c).2
  exact ⟨h0.trans (scores c m _ _ hb hs).symm, h1.trans (boxes c m _ _ hb hs).symm, h2.trans (classes c m _ _ hb hs).symm,
    h3.trans (counts c m _ _ hb hs).symm, ha⟩

end Cert.Equation
-- ==== Proof.lean ====
/-
  The proof of `Cert.Claim`: the two kernel programs and the reference run to their end, keep their arguments and leave
  every counter at zero; the program and its idealization are one text; and, over the ideal numbers, the kernel's four
  results are the reference's.
-/
module

public import proofs.«01_k».proof.Defs
public import proofs.«01_k».proof.Proof.P.Run
public import proofs.«01_k».proof.Proof.PI.Run
public import proofs.«01_k».proof.Proof.RefOut
public import proofs.«01_k».proof.Proof.Equation

@[expose] public section

noncomputable section

namespace Cert.Proof

open Idealize.ShloMosaic Idealize.ShloMosaic.TcCoe Idealize.SL.Sem

/-- Everything the certificate claims. -/
theorem claim : Cert.Claim :=
  ⟨Cert.Kernel.Gen.facts, Cert.KernelIdeal.Gen.facts, Cert.ReferenceIdeal.Gen.facts,
    fun m ρ _ => (θ_run _ _ _).mono (fun r h => ⟨fun c => (h.1 c).2.2.2.2, h.2⟩) (Cert.Kernel.Nms.run (F := Bits) m ρ),
    fun m ρ _ => (θ_run _ _ _).mono (fun r h => ⟨fun c => (h.1 c).2.2.2.2, h.2⟩) (Cert.KernelIdeal.Nms.run (F := Ideal) m ρ),
    fun m ρ _ => (θ_run _ _ _).mono (fun r h => ⟨fun c => (h.1 c).2.2.2.2, h.2⟩) (Cert.RefRun.run (F := Ideal) m ρ),
    trivial, Cert.Equation.algebraic⟩

end Cert.Proof

end
